-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S18874368 : Shape := ⟨1, ![18874368]⟩
abbrev S393216x192 : Shape := ⟨2, ![393216, 192]⟩
abbrev S48x393216 : Shape := ⟨2, ![48, 393216]⟩
abbrev S393216 : Shape := ⟨1, ![393216]⟩
abbrev S192x393216 : Shape := ⟨2, ![192, 393216]⟩
abbrev S192x768x128 : Shape := ⟨3, ![192, 768, 128]⟩
abbrev S3072x128 : Shape := ⟨2, ![3072, 128]⟩
abbrev S192x8x128 : Shape := ⟨3, ![192, 8, 128]⟩
abbrev S192x1024 : Shape := ⟨2, ![192, 1024]⟩
abbrev S48x1024 : Shape := ⟨2, ![48, 1024]⟩
abbrev S8x128 : Shape := ⟨2, ![8, 128]⟩
abbrev S1x128 : Shape := ⟨2, ![1, 128]⟩
abbrev S32x128 : Shape := ⟨2, ![32, 128]⟩
abbrev S8x1x128 : Shape := ⟨3, ![8, 1, 128]⟩
abbrev S128 : Shape := ⟨1, ![128]⟩

abbrev nBuf : Space → Nat
  | .hbm => 49
  | .vmem => 80
  | .smem => 0
  | _ => 0

abbrev bufTy : (tb : Table) → Fin (tcTables nBuf tb) → BufTy
  | .hbm, ⟨0, _⟩ => ⟨S18874368, .f32⟩
  | .hbm, ⟨1, _⟩ => ⟨S18874368, .f32⟩
  | .hbm, ⟨2, _⟩ => ⟨S18874368, .f32⟩
  | .hbm, ⟨3, _⟩ => ⟨S18874368, .f32⟩
  | .hbm, ⟨4, _⟩ => ⟨S393216x192, .i32⟩
  | .hbm, ⟨5, _⟩ => ⟨S48x393216, .i32⟩
  | .hbm, ⟨6, _⟩ => ⟨S393216, .f32⟩
  | .hbm, ⟨7, _⟩ => ⟨S393216, .f32⟩
  | .hbm, ⟨8, _⟩ => ⟨S393216, .f32⟩
  | .hbm, ⟨9, _⟩ => ⟨S192x393216, .i32⟩
  | .hbm, ⟨10, _⟩ => ⟨S192x768x128, .f32⟩
  | .hbm, ⟨11, _⟩ => ⟨S3072x128, .f32⟩
  | .hbm, ⟨12, _⟩ => ⟨S3072x128, .f32⟩
  | .hbm, ⟨13, _⟩ => ⟨S3072x128, .f32⟩
  | .hbm, ⟨14, _⟩ => ⟨S192x393216, .i8⟩
  | .hbm, ⟨15, _⟩ => ⟨S3072x128, .f32⟩
  | .hbm, ⟨16, _⟩ => ⟨S3072x128, .f32⟩
  | .hbm, ⟨17, _⟩ => ⟨S3072x128, .f32⟩
  | .hbm, ⟨18, _⟩ => ⟨S192x393216, .i32⟩
  | .hbm, ⟨19, _⟩ => ⟨S192x768x128, .f32⟩
  | .hbm, ⟨20, _⟩ => ⟨S3072x128, .f32⟩
  | .hbm, ⟨21, _⟩ => ⟨S3072x128, .f32⟩
  | .hbm, ⟨22, _⟩ => ⟨S3072x128, .f32⟩
  | .hbm, ⟨23, _⟩ => ⟨S192x393216, .i8⟩
  | .hbm, ⟨24, _⟩ => ⟨S3072x128, .f32⟩
  | .hbm, ⟨25, _⟩ => ⟨S3072x128, .f32⟩
  | .hbm, ⟨26, _⟩ => ⟨S3072x128, .f32⟩
  | .hbm, ⟨27, _⟩ => ⟨S192x393216, .i32⟩
  | .hbm, ⟨28, _⟩ => ⟨S192x768x128, .f32⟩
  | .hbm, ⟨29, _⟩ => ⟨S3072x128, .f32⟩
  | .hbm, ⟨30, _⟩ => ⟨S3072x128, .f32⟩
  | .hbm, ⟨31, _⟩ => ⟨S3072x128, .f32⟩
  | .hbm, ⟨32, _⟩ => ⟨S192x393216, .i8⟩
  | .hbm, ⟨33, _⟩ => ⟨S3072x128, .f32⟩
  | .hbm, ⟨34, _⟩ => ⟨S3072x128, .f32⟩
  | .hbm, ⟨35, _⟩ => ⟨S3072x128, .f32⟩
  | .hbm, ⟨36, _⟩ => ⟨S192x393216, .i32⟩
  | .hbm, ⟨37, _⟩ => ⟨S192x768x128, .f32⟩
  | .hbm, ⟨38, _⟩ => ⟨S3072x128, .f32⟩
  | .hbm, ⟨39, _⟩ => ⟨S3072x128, .f32⟩
  | .hbm, ⟨40, _⟩ => ⟨S3072x128, .f32⟩
  | .hbm, ⟨41, _⟩ => ⟨S192x393216, .i8⟩
  | .hbm, ⟨42, _⟩ => ⟨S3072x128, .f32⟩
  | .hbm, ⟨43, _⟩ => ⟨S3072x128, .f32⟩
  | .hbm, ⟨44, _⟩ => ⟨S3072x128, .f32⟩
  | .hbm, ⟨45, _⟩ => ⟨S393216x192, .i8⟩
  | .hbm, ⟨46, _⟩ => ⟨S393216, .f32⟩
  | .hbm, ⟨47, _⟩ => ⟨S393216, .f32⟩
  | .hbm, ⟨48, _⟩ => ⟨S393216, .f32⟩
  | .local _ .vmem, ⟨0, _⟩ => ⟨S192x8x128, .f32⟩
  | .local _ .vmem, ⟨1, _⟩ => ⟨S192x8x128, .f32⟩
  | .local _ .vmem, ⟨2, _⟩ => ⟨S192x1024, .i32⟩
  | .local _ .vmem, ⟨3, _⟩ => ⟨S192x1024, .i32⟩
  | .local _ .vmem, ⟨4, _⟩ => ⟨S48x1024, .i32⟩
  | .local _ .vmem, ⟨5, _⟩ => ⟨S48x1024, .i32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S192x1024, .i8⟩
  | .local _ .vmem, ⟨13, _⟩ => ⟨S192x1024, .i8⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S192x8x128, .f32⟩
  | .local _ .vmem, ⟨21, _⟩ => ⟨S192x8x128, .f32⟩
  | .local _ .vmem, ⟨22, _⟩ => ⟨S192x1024, .i32⟩
  | .local _ .vmem, ⟨23, _⟩ => ⟨S192x1024, .i32⟩
  | .local _ .vmem, ⟨24, _⟩ => ⟨S48x1024, .i32⟩
  | .local _ .vmem, ⟨25, _⟩ => ⟨S48x1024, .i32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S192x1024, .i8⟩
  | .local _ .vmem, ⟨33, _⟩ => ⟨S192x1024, .i8⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S192x8x128, .f32⟩
  | .local _ .vmem, ⟨41, _⟩ => ⟨S192x8x128, .f32⟩
  | .local _ .vmem, ⟨42, _⟩ => ⟨S192x1024, .i32⟩
  | .local _ .vmem, ⟨43, _⟩ => ⟨S192x1024, .i32⟩
  | .local _ .vmem, ⟨44, _⟩ => ⟨S48x1024, .i32⟩
  | .local _ .vmem, ⟨45, _⟩ => ⟨S48x1024, .i32⟩
  | .local _ .vmem, ⟨46, _⟩ => ⟨S8x128, .f32⟩
  | .local _ .vmem, ⟨47, _⟩ => ⟨S8x128, .f32⟩
  | .local _ .vmem, ⟨48, _⟩ => ⟨S8x128, .f32⟩
  | .local _ .vmem, ⟨49, _⟩ => ⟨S8x128, .f32⟩
  | .local _ .vmem, ⟨50, _⟩ => ⟨S8x128, .f32⟩
  | .local _ .vmem, ⟨51, _⟩ => ⟨S8x128, .f32⟩
  | .local _ .vmem, ⟨52, _⟩ => ⟨S192x1024, .i8⟩
  | .local _ .vmem, ⟨53, _⟩ => ⟨S192x1024, .i8⟩
  | .local _ .vmem, ⟨54, _⟩ => ⟨S8x128, .f32⟩
  | .local _ .vmem, ⟨55, _⟩ => ⟨S8x128, .f32⟩
  | .local _ .vmem, ⟨56, _⟩ => ⟨S8x128, .f32⟩
  | .local _ .vmem, ⟨57, _⟩ => ⟨S8x128, .f32⟩
  | .local _ .vmem, ⟨58, _⟩ => ⟨S8x128, .f32⟩
  | .local _ .vmem, ⟨59, _⟩ => ⟨S8x128, .f32⟩
  | .local _ .vmem, ⟨60, _⟩ => ⟨S192x8x128, .f32⟩
  | .local _ .vmem, ⟨61, _⟩ => ⟨S192x8x128, .f32⟩
  | .local _ .vmem, ⟨62, _⟩ => ⟨S192x1024, .i32⟩
  | .local _ .vmem, ⟨63, _⟩ => ⟨S192x1024, .i32⟩
  | .local _ .vmem, ⟨64, _⟩ => ⟨S48x1024, .i32⟩
  | .local _ .vmem, ⟨65, _⟩ => ⟨S48x1024, .i32⟩
  | .local _ .vmem, ⟨66, _⟩ => ⟨S8x128, .f32⟩
  | .local _ .vmem, ⟨67, _⟩ => ⟨S8x128, .f32⟩
  | .local _ .vmem, ⟨68, _⟩ => ⟨S8x128, .f32⟩
  | .local _ .vmem, ⟨69, _⟩ => ⟨S8x128, .f32⟩
  | .local _ .vmem, ⟨70, _⟩ => ⟨S8x128, .f32⟩
  | .local _ .vmem, ⟨71, _⟩ => ⟨S8x128, .f32⟩
  | .local _ .vmem, ⟨72, _⟩ => ⟨S192x1024, .i8⟩
  | .local _ .vmem, ⟨73, _⟩ => ⟨S192x1024, .i8⟩
  | .local _ .vmem, ⟨74, _⟩ => ⟨S8x128, .f32⟩
  | .local _ .vmem, ⟨75, _⟩ => ⟨S8x128, .f32⟩
  | .local _ .vmem, ⟨76, _⟩ => ⟨S8x128, .f32⟩
  | .local _ .vmem, ⟨77, _⟩ => ⟨S8x128, .f32⟩
  | .local _ .vmem, ⟨78, _⟩ => ⟨S8x128, .f32⟩
  | .local _ .vmem, ⟨79, _⟩ => ⟨S8x128, .f32⟩
  | _, _ => ⟨S18874368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg3_1 : Ref sig .tc := ⟨.vmem, 47, rfl⟩
abbrev cc2_stg4_0 : Ref sig .tc := ⟨.vmem, 48, rfl⟩
abbrev cc2_stg4_1 : Ref sig .tc := ⟨.vmem, 49, rfl⟩
abbrev cc2_stg5_0 : Ref sig .tc := ⟨.vmem, 50, rfl⟩
abbrev cc2_stg5_1 : Ref sig .tc := ⟨.vmem, 51, rfl⟩
abbrev cc2_stg6_0 : Ref sig .tc := ⟨.vmem, 52, rfl⟩
abbrev cc2_stg6_1 : Ref sig .tc := ⟨.vmem, 53, rfl⟩
abbrev cc2_stg7_0 : Ref sig .tc := ⟨.vmem, 54, rfl⟩
abbrev cc2_stg7_1 : Ref sig .tc := ⟨.vmem, 55, rfl⟩
abbrev cc2_stg8_0 : Ref sig .tc := ⟨.vmem, 56, rfl⟩
abbrev cc2_stg8_1 : Ref sig .tc := ⟨.vmem, 57, rfl⟩
abbrev cc2_stg9_0 : Ref sig .tc := ⟨.vmem, 58, rfl⟩
abbrev cc2_stg9_1 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg2_1 : Ref sig .tc := ⟨.vmem, 65, rfl⟩
abbrev cc3_stg3_0 : Ref sig .tc := ⟨.vmem, 66, rfl⟩
abbrev cc3_stg3_1 : Ref sig .tc := ⟨.vmem, 67, rfl⟩
abbrev cc3_stg4_0 : Ref sig .tc := ⟨.vmem, 68, rfl⟩
abbrev cc3_stg4_1 : Ref sig .tc := ⟨.vmem, 69, rfl⟩
abbrev cc3_stg5_0 : Ref sig .tc := ⟨.vmem, 70, rfl⟩
abbrev cc3_stg5_1 : Ref sig .tc := ⟨.vmem, 71, rfl⟩
abbrev cc3_stg6_0 : Ref sig .tc := ⟨.vmem, 72, rfl⟩
abbrev cc3_stg6_1 : Ref sig .tc := ⟨.vmem, 73, rfl⟩
abbrev cc3_stg7_0 : Ref sig .tc := ⟨.vmem, 74, rfl⟩
abbrev cc3_stg7_1 : Ref sig .tc := ⟨.vmem, 75, rfl⟩
abbrev cc3_stg8_0 : Ref sig .tc := ⟨.vmem, 76, rfl⟩
abbrev cc3_stg8_1 : Ref sig .tc := ⟨.vmem, 77, rfl⟩
abbrev cc3_stg9_0 : Ref sig .tc := ⟨.vmem, 78, rfl⟩
abbrev cc3_stg9_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem5_1 : DmaSem sig := 51
abbrev cc2_sem6_0 : DmaSem sig := 52
abbrev cc2_sem6_1 : DmaSem sig := 53
abbrev cc2_sem7_0 : DmaSem sig := 54
abbrev cc2_sem7_1 : DmaSem sig := 55
abbrev cc2_sem8_0 : DmaSem sig := 56
abbrev cc2_sem8_1 : DmaSem sig := 57
abbrev cc2_sem9_0 : DmaSem sig := 58
abbrev cc2_sem9_1 : DmaSem sig := 59
abbrev cc3_sem0_0 : DmaSem sig := 60
abbrev cc3_sem0_1 : DmaSem sig := 61
abbrev cc3_sem1_0 : DmaSem sig := 62
abbrev cc3_sem1_1 : DmaSem sig := 63
abbrev cc3_sem2_0 : DmaSem sig := 64
abbrev cc3_sem2_1 : DmaSem sig := 65
abbrev cc3_sem3_0 : DmaSem sig := 66
abbrev cc3_sem3_1 : DmaSem sig := 67
abbrev cc3_sem4_0 : DmaSem sig := 68
abbrev cc3_sem4_1 : DmaSem sig := 69
abbrev cc3_sem5_0 : DmaSem sig := 70
abbrev cc3_sem5_1 : DmaSem sig := 71
abbrev cc3_sem6_0 : DmaSem sig := 72
abbrev cc3_sem6_1 : DmaSem sig := 73
abbrev cc3_sem7_0 : DmaSem sig := 74
abbrev cc3_sem7_1 : DmaSem sig := 75
abbrev cc3_sem8_0 : DmaSem sig := 76
abbrev cc3_sem8_1 : DmaSem sig := 77
abbrev cc3_sem9_0 : DmaSem sig := 78
abbrev cc3_sem9_1 : DmaSem sig := 79

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S192x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![c0_i32.toNat, v0.toNat]

def cc1_transform_11 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

abbrev stage1_0 : Fin 2 → Memref sig .tc .vmem S192x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S192x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S48x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S192x1024 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![96], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_5 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![c0_i32.toNat, v0.toNat]

def cc2_transform_11 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_12 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc2_transform_13 (i : grid2.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

abbrev stage2_0 : Fin 2 → Memref sig .tc .vmem S192x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S192x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S48x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S192x1024 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![96], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

def cc3_transform_10 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![c0_i32.toNat, v0.toNat]

def cc3_transform_11 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

def cc3_transform_12 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

def cc3_transform_13 (i : grid3.Coords) : Fin 2 → Nat :=
  let arg0 : BitVec 32 := BitVec.ofNat 32 (i 0).val
  let c288_i32 : BitVec 32 := 288#32
  let v0 : BitVec 32 := Scalar.addi c288_i32 arg0
  let c0_i32 : BitVec 32 := 0#32
  let c0_i32_0 : BitVec 32 := 0#32
  ![v0.toNat, c0_i32.toNat]

abbrev stage3_0 : Fin 2 → Memref sig .tc .vmem S192x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S192x1024 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S48x1024 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S192x1024 .i8 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S8x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== ReferenceIdeal.lean ====
abbrev S18874368 : Shape := ⟨1, ![18874368]⟩
abbrev S393216x192 : Shape := ⟨2, ![393216, 192]⟩
abbrev S48x393216 : Shape := ⟨2, ![48, 393216]⟩
abbrev S393216 : Shape := ⟨1, ![393216]⟩
abbrev S192x98304 : Shape := ⟨2, ![192, 98304]⟩
abbrev S192x393216 : Shape := ⟨2, ![192, 393216]⟩
abbrev S48x393216x4 : Shape := ⟨3, ![48, 393216, 4]⟩
abbrev S48x4x393216 : Shape := ⟨3, ![48, 4, 393216]⟩
abbrev S393216x1 : Shape := ⟨2, ![393216, 1]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S18874368, .f32⟩
  | .hbm, ⟨1, _⟩ => ⟨S18874368, .f32⟩
  | .hbm, ⟨2, _⟩ => ⟨S18874368, .f32⟩
  | .hbm, ⟨3, _⟩ => ⟨S18874368, .f32⟩
  | .hbm, ⟨4, _⟩ => ⟨S393216x192, .i32⟩
  | .hbm, ⟨5, _⟩ => ⟨S48x393216, .i32⟩
  | .hbm, ⟨6, _⟩ => ⟨S393216, .f32⟩
  | .hbm, ⟨7, _⟩ => ⟨S393216, .f32⟩
  | .hbm, ⟨8, _⟩ => ⟨S393216, .f32⟩
  | .hbm, ⟨9, _⟩ => ⟨S192x98304, .f32⟩
  | .hbm, ⟨10, _⟩ => ⟨S192x98304, .f32⟩
  | .hbm, ⟨11, _⟩ => ⟨S192x98304, .f32⟩
  | .hbm, ⟨12, _⟩ => ⟨S192x98304, .f32⟩
  | .hbm, ⟨13, _⟩ => ⟨S192x393216, .f32⟩
  | .hbm, ⟨14, _⟩ => ⟨S393216x192, .f32⟩
  | .hbm, ⟨15, _⟩ => ⟨S48x393216x4, .i8⟩
  | .hbm, ⟨16, _⟩ => ⟨S48x4x393216, .i8⟩
  | .hbm, ⟨17, _⟩ => ⟨S192x393216, .i8⟩
  | .hbm, ⟨18, _⟩ => ⟨S393216x192, .i8⟩
  | .hbm, ⟨19, _⟩ => ⟨S393216x192, .i32⟩
  | .hbm, ⟨20, _⟩ => ⟨S393216x192, .f32⟩
  | .hbm, ⟨21, _⟩ => ⟨S393216x1, .f32⟩
  | .hbm, ⟨22, _⟩ => ⟨S393216x192, .f32⟩
  | .hbm, ⟨23, _⟩ => ⟨S393216x192, .f32⟩
  | .hbm, ⟨24, _⟩ => ⟨S393216x1, .f32⟩
  | .hbm, ⟨25, _⟩ => ⟨S393216x192, .f32⟩
  | .hbm, ⟨26, _⟩ => ⟨S393216x192, .f32⟩
  | .hbm, ⟨27, _⟩ => ⟨S_, .f32⟩
  | .hbm, ⟨28, _⟩ => ⟨S393216x192, .f32⟩
  | .hbm, ⟨29, _⟩ => ⟨S393216x192, .f32⟩
  | .hbm, ⟨30, _⟩ => ⟨S393216x192, .f32⟩
  | .hbm, ⟨31, _⟩ => ⟨S393216x192, .f32⟩
  | .hbm, ⟨32, _⟩ => ⟨S_, .f32⟩
  | .hbm, ⟨33, _⟩ => ⟨S393216, .f32⟩
  | .hbm, ⟨34, _⟩ => ⟨S_, .f32⟩
  | .hbm, ⟨35, _⟩ => ⟨S393216, .f32⟩
  | .hbm, ⟨36, _⟩ => ⟨S393216, .f32⟩
  | .hbm, ⟨37, _⟩ => ⟨S393216, .f32⟩
  | .hbm, ⟨38, _⟩ => ⟨S393216, .f32⟩
  | .hbm, ⟨39, _⟩ => ⟨S_, .f32⟩
  | .hbm, ⟨40, _⟩ => ⟨S393216, .f32⟩
  | .hbm, ⟨41, _⟩ => ⟨S393216, .f32⟩
  | .hbm, ⟨42, _⟩ => ⟨S_, .f32⟩
  | .hbm, ⟨43, _⟩ => ⟨S393216, .f32⟩
  | .hbm, ⟨44, _⟩ => ⟨S393216, .f32⟩
  | .hbm, ⟨45, _⟩ => ⟨S393216x1, .f32⟩
  | .hbm, ⟨46, _⟩ => ⟨S393216x192, .f32⟩
  | .hbm, ⟨47, _⟩ => ⟨S393216x192, .f32⟩
  | .hbm, ⟨48, _⟩ => ⟨S393216x192, .f32⟩
  | .hbm, ⟨49, _⟩ => ⟨S_, .f32⟩
  | .hbm, ⟨50, _⟩ => ⟨S393216, .f32⟩
  | .hbm, ⟨51, _⟩ => ⟨S_, .f32⟩
  | .hbm, ⟨52, _⟩ => ⟨S393216, .f32⟩
  | .hbm, ⟨53, _⟩ => ⟨S393216, .f32⟩
  | .hbm, ⟨54, _⟩ => ⟨S_, .f32⟩
  | .hbm, ⟨55, _⟩ => ⟨S393216, .f32⟩
  | .hbm, ⟨56, _⟩ => ⟨S393216, .f32⟩
  | .hbm, ⟨57, _⟩ => ⟨S_, .f32⟩
  | .hbm, ⟨58, _⟩ => ⟨S393216, .f32⟩
  | .hbm, ⟨59, _⟩ => ⟨S393216, .f32⟩
  | .hbm, ⟨60, _⟩ => ⟨S_, .f32⟩
  | .hbm, ⟨61, _⟩ => ⟨S393216, .f32⟩
  | .hbm, ⟨62, _⟩ => ⟨S393216, .f32⟩
  | .hbm, ⟨63, _⟩ => ⟨S393216x1, .f32⟩
  | .hbm, ⟨64, _⟩ => ⟨S393216x192, .f32⟩
  | .hbm, ⟨65, _⟩ => ⟨S393216x192, .f32⟩
  | .hbm, ⟨66, _⟩ => ⟨S393216x1, .f32⟩
  | .hbm, ⟨67, _⟩ => ⟨S393216x192, .f32⟩
  | .hbm, ⟨68, _⟩ => ⟨S393216x192, .f32⟩
  | .hbm, ⟨69, _⟩ => ⟨S_, .i32⟩
  | .hbm, ⟨70, _⟩ => ⟨S393216x192, .i32⟩
  | .hbm, ⟨71, _⟩ => ⟨S393216x192, .i32⟩
  | .hbm, ⟨72, _⟩ => ⟨S393216x192, .f32⟩
  | .hbm, ⟨73, _⟩ => ⟨S_, .f32⟩
  | .hbm, ⟨74, _⟩ => ⟨S393216x192, .f32⟩
  | .hbm, ⟨75, _⟩ => ⟨S393216x192, .f32⟩
  | .hbm, ⟨76, _⟩ => ⟨S393216x192, .f32⟩
  | .hbm, ⟨77, _⟩ => ⟨S393216x192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S393216x192, .f32⟩
  | .hbm, ⟨82, _⟩ => ⟨S393216x192, .f32⟩
  | .hbm, ⟨83, _⟩ => ⟨S_, .f32⟩
  | .hbm, ⟨84, _⟩ => ⟨S393216x192, .f32⟩
  | .hbm, ⟨85, _⟩ => ⟨S393216x192, .f32⟩
  | .hbm, ⟨86, _⟩ => ⟨S393216x192, .i32⟩
  | .hbm, ⟨87, _⟩ => ⟨S393216x192, .i8⟩
  | _, _ => ⟨S18874368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_cst_11 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Proof.RunKernel.lean ====
/- The run of the four calls with what its results hold: the frame's run, read at the result arrays too. -/
module

public import proofs.«01_k».proof.Proof.Gen.KernelIdeal.Frame

@[expose] public section

set_option maxRecDepth 16384

noncomputable section

namespace Cert.KernelIdeal.Results

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The run, with the result arrays and the arguments as the last stretch of host operations leaves them. -/
theorem run_results : θ_run defs (onTc (τ := τ) (main (F := F))) ⟨m, fun _ => 0, ρ⟩ (fun r => (∀ c : Dev nD,
      r.2.mem ((c.tc : Thread nD τ).loc main_v24) = W9 m ρ c (Proc.devRef .tc main_v24)
      ∧ r.2.mem ((c.tc : Thread nD τ).loc main_v25) = W9 m ρ c (Proc.devRef .tc main_v25)
      ∧ r.2.mem ((c.tc : Thread nD τ).loc main_v26) = W9 m ρ c (Proc.devRef .tc main_v26)
      ∧ r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v24 (by decide)),
       h c _ (mem_uc main_v25 (by decide)),
       h c _ (mem_uc main_v26 (by decide)),
       h c _ (mem_uc main_v27 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩), funext fun g => hz g (.inr (no_unscoped g.2))⟩)

end Cert.KernelIdeal.Results
-- ==== Proof.Row.lean ====
/- The update of ONE table row, over the extended reals: what both programs compute of a row's 192 summed
   gradients, its 192 old codes and 192 random words, its scale, bias and momentum. -/
module

public import Idealize.ShloMosaic.Lib.Pointwise
public import Idealize.ShloMosaic.Lib.IdealHost

@[expose] public section

noncomputable section

namespace Cert.Row

open Idealize.ShloMosaic

/-- A constant of the programs, by its bits. -/
abbrev const (b : BitVec 32) : Ideal .f32 := Scalar.ofBits (F := Ideal) .f32 b

/-- Byte `q` of a word of four codes, as a number. -/
def codeOf (x : BitVec 32) (q : Nat) : Ideal .f32 :=
  Scalar.sitofp (F := Ideal) .f32 ((x.extractLsb' (q * 8) 8).setWidth 32)

/-- A random word as the number that is added before rounding down: its upper 24 bits over `2 ^ 24`. -/
def noiseOf (x : BitVec 32) : Ideal .f32 := Scalar.sitofp (F := Ideal) .f32 (x >>> 8) * const 0x33800000#32

variable (g c r : Fin 192 → Ideal .f32) (s b m : Ideal .f32)

/-- The old weight: code times scale plus bias. -/
def weight (d : Fin 192) : Ideal .f32 := c d * s + b

/-- The gradient with the weight decay. -/
def grad (d : Fin 192) : Ideal .f32 := g d + const 0x3D4CCCCD#32 * weight c s b d

/-- The new momentum: the mean square of the gradient added to the old. -/
def state : Ideal .f32 := m + Ideal.div (∑ d, grad g c s b d * grad g c s b d) (const 0x43400000#32)

/-- The step size. -/
def step : Ideal .f32 := Ideal.div (const 0x3CA3D70A#32) (Ideal.sqrt (state g c s b m) + const 0x322BCC77#32)

/-- The new weight. -/
def new (d : Fin 192) : Ideal .f32 := weight c s b d - step g c s b m * grad g c s b d

/-- The least new weight. -/
def least : Ideal .f32 := Finset.univ.fold min (const 0x7F800000#32) (new g c s b m)

/-- The greatest new weight. -/
def greatest : Ideal .f32 := Finset.univ.fold max (const 0xFF800000#32) (new g c s b m)

/-- The range of the new weights. -/
def range : Ideal .f32 := greatest g c s b m - least g c s b m

/-- The new scale. -/
def scale : Ideal .f32 := Ideal.div (range g c s b m) (const 0x437F0000#32)

/-- What a weight above the least is multiplied by to give a code. -/
def factor : Ideal .f32 := Ideal.div (const 0x437F0000#32) (range g c s b m + const 0x322BCC77#32)

/-- The new code as a word: brought to codes, the noise added, rounded down, clipped to `0 .. 255`. -/
def codeWord (d : Fin 192) : BitVec 32 :=
  Ideal.fptosi 32 (min (const 0x437F0000#32) (max (const 0x00000000#32)
    (Ideal.liftRound Int.floor ((new g c s b m d - least g c s b m) * factor g c s b m + r d))))

/-- The new code as a byte. -/
def code (d : Fin 192) : BitVec 8 := (codeWord g c r s b m d).setWidth 8

end Cert.Row
-- ==== Proof.Ref.lean ====
/- The reference's arrays, step by step, and each read at one place. -/
module

public import proofs.«01_k».proof.Proof.Gen.ReferenceIdeal
public import proofs.«01_k».proof.Proof.Row
public import Idealize.ShloMosaic.Lib.Pointwise
public import Idealize.ShloMosaic.Lib.BitcastConvert

@[expose] public section

noncomputable section

namespace Cert.ReferenceIdeal.Steps

open Idealize.ShloMosaic Idealize.SL.Sem Cert.ReferenceIdeal Cert.ReferenceIdeal.Gen

variable (a0 a1 a2 a3 : FVec Ideal S18874368 .f32) (a4 : IVec S393216x192 32) (a5 : IVec S48x393216 32)
  (a6 a7 a8 : FVec Ideal S393216 .f32)

/-- The gradient sums, one row per table row. -/
def sums : FVec Ideal S393216x192 .f32 :=
  transpose S393216x192 [1, 0] (concatenate S192x393216 1 [⟨S192x98304, shapeCast _ a0 shapeCasts_S18874368_S192x98304⟩,
    ⟨S192x98304, shapeCast _ a1 shapeCasts_S18874368_S192x98304⟩, ⟨S192x98304, shapeCast _ a2 shapeCasts_S18874368_S192x98304⟩,
    ⟨S192x98304, shapeCast _ a3 shapeCasts_S18874368_S192x98304⟩]
    concatenates_S192x98304_S192x98304_S192x98304_S192x98304_S192x393216_d1) transposes_S192x393216_S393216x192_1_0

/-- The old codes as numbers. -/
def codes : FVec Ideal S393216x192 .f32 :=
  sitofp .f32 (extui 32 (transpose S393216x192 [1, 0] (shapeCast _ (transpose S48x4x393216 [0, 2, 1]
    (Host.bitcastConvertNarrow S48x393216x4 8 a5 splits_S48x393216_w32_S48x393216x4_w8)
    transposes_S48x393216x4_S48x4x393216_0_2_1) shapeCasts_S48x4x393216_S192x393216) transposes_S192x393216_S393216x192_1_0) natLt_8_32)

/-- One number per row, repeated over the features. -/
def spread (x : FVec Ideal S393216 .f32) : FVec Ideal S393216x192 .f32 :=
  broadcastInDim S393216x192 ![0, 1] bcast_S393216x1_S393216x192_0_1 (broadcastInDim S393216x1 ![0] bcast_S393216_S393216x1_0 x)

/-- The old weights. -/
def weight : FVec Ideal S393216x192 .f32 := addf (mulf (codes a5) (spread a6)) (spread a7)

/-- The gradients with the weight decay. -/
def grad : FVec Ideal S393216x192 .f32 :=
  addf (sums a0 a1 a2 a3) (mulf (broadcastInDim S393216x192 ![] bcast_S_S393216x192 (constant S_ .f32 0x3D4CCCCD#32)) (weight a5 a6 a7))

/-- The new momentum. -/
def state : FVec Ideal S393216 .f32 :=
  addf a8 (Host.divf (Host.reduceAdd (mulf (grad a0 a1 a2 a3 a5 a6 a7) (grad a0 a1 a2 a3 a5 a6 a7)) (constant S_ .f32 0x00000000#32)
    reducesTo_S393216x192_S393216_d1 h_S_) (broadcastInDim S393216 ![] bcast_S_S393216 (constant S_ .f32 0x43400000#32)))

/-- The step sizes. -/
def step : FVec Ideal S393216 .f32 :=
  Host.divf (broadcastInDim S393216 ![] bcast_S_S393216 (constant S_ .f32 0x3CA3D70A#32))
    (addf (Host.sqrt (state a0 a1 a2 a3 a5 a6 a7 a8)) (broadcastInDim S393216 ![] bcast_S_S393216 (constant S_ .f32 0x322BCC77#32)))

/-- The new weights. -/
def new : FVec Ideal S393216x192 .f32 :=
  subf (weight a5 a6 a7) (mulf (spread (step a0 a1 a2 a3 a5 a6 a7 a8)) (grad a0 a1 a2 a3 a5 a6 a7))

/-- The least new weight of each row. -/
def least : FVec Ideal S393216 .f32 :=
  Host.reduce FloatOps.minimumf (new a0 a1 a2 a3 a5 a6 a7 a8) (constant S_ .f32 0x7F800000#32) reducesTo_S393216x192_S393216_d1 h_S_

/-- The greatest new weight of each row. -/
def greatest : FVec Ideal S393216 .f32 :=
  Host.reduce FloatOps.maximumf (new a0 a1 a2 a3 a5 a6 a7 a8) (constant S_ .f32 0xFF800000#32) reducesTo_S393216x192_S393216_d1 h_S_

/-- The range of each row. -/
def range : FVec Ideal S393216 .f32 := subf (greatest a0 a1 a2 a3 a5 a6 a7 a8) (least a0 a1 a2 a3 a5 a6 a7 a8)

/-- The new scales. -/
def scale : FVec Ideal S393216 .f32 :=
  Host.divf (range a0 a1 a2 a3 a5 a6 a7 a8) (broadcastInDim S393216 ![] bcast_S_S393216 (constant S_ .f32 0x437F0000#32))

/-- The factor to codes of each row. -/
def factor : FVec Ideal S393216 .f32 :=
  Host.divf (broadcastInDim S393216 ![] bcast_S_S393216 (constant S_ .f32 0x437F0000#32))
    (addf (range a0 a1 a2 a3 a5 a6 a7 a8) (broadcastInDim S393216 ![] bcast_S_S393216 (constant S_ .f32 0x322BCC77#32)))

/-- The noise. -/
def noise : FVec Ideal S393216x192 .f32 :=
  mulf (uitofp .f32 (Host.shrui a4 (broadcastInDim S393216x192 ![] bcast_S_S393216x192 (constantI S_ 32 8#32))))
    (broadcastInDim S393216x192 ![] bcast_S_S393216x192 (constant S_ .f32 0x33800000#32))

/-- The new codes. -/
def code : IVec S393216x192 8 :=
  trunci 8 (fptosi 32 (minimumf (broadcastInDim S393216x192 ![] bcast_S_S393216x192 (id (constant S_ .f32 0x437F0000#32)))
    (maximumf (broadcastInDim S393216x192 ![] bcast_S_S393216x192 (id (constant S_ .f32 0x00000000#32)))
      (Host.floor (addf (mulf (subf (new a0 a1 a2 a3 a5 a6 a7 a8) (spread (least a0 a1 a2 a3 a5 a6 a7 a8)))
        (spread (factor a0 a1 a2 a3 a5 a6 a7 a8))) (noise a4)))))) natLt_8_32

/-! ## Row by row -/

/-- The gradient sums of row `n`: they come in four quarters of the rows, each feature by feature. -/
def gN (n : Fin 393216) (d : Fin 192) : Ideal .f32 :=
  if n.val < 98304 then a0 (ix1 ⟨d.val * 98304 + n.val % 98304, by omega⟩)
  else if n.val < 196608 then a1 (ix1 ⟨d.val * 98304 + n.val % 98304, by omega⟩)
  else if n.val < 294912 then a2 (ix1 ⟨d.val * 98304 + n.val % 98304, by omega⟩)
  else a3 (ix1 ⟨d.val * 98304 + n.val % 98304, by omega⟩)

/-- The old codes of row `n`. -/
def cN (n : Fin 393216) (d : Fin 192) : Ideal .f32 := Row.codeOf (a5 (ix2 ⟨d.val / 4, by omega⟩ n)) (d.val % 4)

/-- The noise of row `n`. -/
def rN (n : Fin 393216) (d : Fin 192) : Ideal .f32 := Row.noiseOf (a4 (ix2 n d))

theorem sums_at (n : Fin 393216) (d : Fin 192) : sums a0 a1 a2 a3 (ix2 n d) = gN a0 a1 a2 a3 n d := by
  unfold sums gN
  pointwise
  have hn := n.isLt
  have key (a : FVec Ideal S18874368 .f32) (k k' : Nat) (h : k < 18874368) (h' : k' < 18874368) (e : k = k') :
      a (ix1 ⟨k, h⟩) = a (ix1 ⟨k', h'⟩) := by subst e; rfl
  by_cases h1 : n.val < 98304
  · rw [dif_pos h1, if_pos h1]
    exact key _ _ _ _ _ (by omega)
  rw [dif_neg h1, if_neg h1]
  by_cases h2 : n.val < 196608
  · rw [dif_pos (by omega), if_pos h2]
    exact key _ _ _ _ _ (by omega)
  rw [dif_neg (by omega), if_neg h2]
  by_cases h3 : n.val < 294912
  · rw [dif_pos (by omega), if_pos h3]
    exact key _ _ _ _ _ (by omega)
  rw [dif_neg (by omega), if_neg h3]
  exact key _ _ _ _ _ (by omega)

theorem codes_at (n : Fin 393216) (d : Fin 192) : codes a5 (ix2 n d) = cN a5 n d := by
  unfold codes cN Row.codeOf
  pointwise
  rw [show splits_S48x393216_w32_S48x393216x4_w8.drop (ix3 ⟨d.val / 4, by omega⟩ n ⟨d.val % 4, by omega⟩)
    = ix2 ⟨d.val / 4, by omega⟩ n from funext fun a => Fin.ext (by fin_cases a <;> rfl)]
  rfl

theorem spread_at (x : FVec Ideal S393216 .f32) (n : Fin 393216) (d : Fin 192) : spread x (ix2 n d) = x (ix1 n) := by
  unfold spread
  pointwise

theorem noise_at (n : Fin 393216) (d : Fin 192) : noise a4 (ix2 n d) = rN a4 n d := by
  unfold noise rN Row.noiseOf
  have h (x : BitVec 32) : (x >>> 8).toInt = ((x >>> 8).toNat : Int) := by
    have := x.isLt
    rw [BitVec.toInt_eq_toNat_of_lt]
    rw [BitVec.toNat_ushiftRight, Nat.shiftRight_eq_div_pow]
    omega
  pointwise
  rw [h]
  rfl

theorem weight_at (n : Fin 393216) (d : Fin 192) :
    weight a5 a6 a7 (ix2 n d) = Row.weight (cN a5 n) (a6 (ix1 n)) (a7 (ix1 n)) d := by
  unfold Row.weight
  rw [← codes_at, ← spread_at a6 n d, ← spread_at a7 n d]
  rfl

theorem grad_at (n : Fin 393216) (d : Fin 192) :
    grad a0 a1 a2 a3 a5 a6 a7 (ix2 n d) = Row.grad (gN a0 a1 a2 a3 n) (cN a5 n) (a6 (ix1 n)) (a7 (ix1 n)) d := by
  unfold Row.grad
  rw [← weight_at, ← sums_at]
  unfold grad
  pointwise

theorem state_at (n : Fin 393216) :
    state a0 a1 a2 a3 a5 a6 a7 a8 (ix1 n)
      = Row.state (gN a0 a1 a2 a3 n) (cN a5 n) (a6 (ix1 n)) (a7 (ix1 n)) (a8 (ix1 n)) := by
  unfold Row.state
  simp only [← grad_at]
  unfold state
  pointwise

theorem step_at (n : Fin 393216) :
    step a0 a1 a2 a3 a5 a6 a7 a8 (ix1 n)
      = Row.step (gN a0 a1 a2 a3 n) (cN a5 n) (a6 (ix1 n)) (a7 (ix1 n)) (a8 (ix1 n)) := by
  unfold Row.step
  rw [← state_at]
  unfold step
  pointwise

theorem new_at (n : Fin 393216) (d : Fin 192) :
    new a0 a1 a2 a3 a5 a6 a7 a8 (ix2 n d)
      = Row.new (gN a0 a1 a2 a3 n) (cN a5 n) (a6 (ix1 n)) (a7 (ix1 n)) (a8 (ix1 n)) d := by
  unfold Row.new
  rw [← weight_at, ← step_at, ← grad_at, ← spread_at (step a0 a1 a2 a3 a5 a6 a7 a8) n d]
  rfl

theorem least_at (n : Fin 393216) :
    least a0 a1 a2 a3 a5 a6 a7 a8 (ix1 n)
      = Row.least (gN a0 a1 a2 a3 n) (cN a5 n) (a6 (ix1 n)) (a7 (ix1 n)) (a8 (ix1 n)) := by
  have h (x : FVec Ideal S393216x192 .f32) :
      Host.reduce FloatOps.minimumf x (constant S_ .f32 0x7F800000#32) reducesTo_S393216x192_S393216_d1 h_S_ (ix1 n)
        = (Finset.univ : Finset (Fin 192)).fold min (Row.const 0x7F800000#32) fun d => x (ix2 n d) := by
    pointwise
  exact (h (new a0 a1 a2 a3 a5 a6 a7 a8)).trans
    (congrArg (fun f : Fin 192 → Ideal .f32 => (Finset.univ : Finset (Fin 192)).fold min (Row.const 0x7F800000#32) f)
      (funext fun d => new_at a0 a1 a2 a3 a5 a6 a7 a8 n d))

theorem greatest_at (n : Fin 393216) :
    greatest a0 a1 a2 a3 a5 a6 a7 a8 (ix1 n)
      = Row.greatest (gN a0 a1 a2 a3 n) (cN a5 n) (a6 (ix1 n)) (a7 (ix1 n)) (a8 (ix1 n)) := by
  have h (x : FVec Ideal S393216x192 .f32) :
      Host.reduce FloatOps.maximumf x (constant S_ .f32 0xFF800000#32) reducesTo_S393216x192_S393216_d1 h_S_ (ix1 n)
        = (Finset.univ : Finset (Fin 192)).fold max (Row.const 0xFF800000#32) fun d => x (ix2 n d) := by
    pointwise
  exact (h (new a0 a1 a2 a3 a5 a6 a7 a8)).trans
    (congrArg (fun f : Fin 192 → Ideal .f32 => (Finset.univ : Finset (Fin 192)).fold max (Row.const 0xFF800000#32) f)
      (funext fun d => new_at a0 a1 a2 a3 a5 a6 a7 a8 n d))

theorem range_at (n : Fin 393216) :
    range a0 a1 a2 a3 a5 a6 a7 a8 (ix1 n)
      = Row.range (gN a0 a1 a2 a3 n) (cN a5 n) (a6 (ix1 n)) (a7 (ix1 n)) (a8 (ix1 n)) := by
  have h (x y : FVec Ideal S393216 .f32) : subf x y (ix1 n) = x (ix1 n) - y (ix1 n) := rfl
  exact (h (greatest a0 a1 a2 a3 a5 a6 a7 a8) (least a0 a1 a2 a3 a5 a6 a7 a8)).trans
    (congrArg₂ (fun x y : Ideal .f32 => x - y) (greatest_at ..) (least_at ..))

theorem scale_at (n : Fin 393216) :
    scale a0 a1 a2 a3 a5 a6 a7 a8 (ix1 n)
      = Row.scale (gN a0 a1 a2 a3 n) (cN a5 n) (a6 (ix1 n)) (a7 (ix1 n)) (a8 (ix1 n)) := by
  have h (x : FVec Ideal S393216 .f32) :
      Host.divf x (broadcastInDim S393216 ![] bcast_S_S393216 (constant S_ .f32 0x437F0000#32)) (ix1 n)
        = Ideal.div (x (ix1 n)) (Row.const 0x437F0000#32) := by pointwise
  exact (h (range a0 a1 a2 a3 a5 a6 a7 a8)).trans
    (congrArg (fun x : Ideal .f32 => Ideal.div x (Row.const 0x437F0000#32)) (range_at ..))

theorem factor_at (n : Fin 393216) :
    factor a0 a1 a2 a3 a5 a6 a7 a8 (ix1 n)
      = Row.factor (gN a0 a1 a2 a3 n) (cN a5 n) (a6 (ix1 n)) (a7 (ix1 n)) (a8 (ix1 n)) := by
  have h (x : FVec Ideal S393216 .f32) :
      Host.divf (broadcastInDim S393216 ![] bcast_S_S393216 (constant S_ .f32 0x437F0000#32))
          (addf x (broadcastInDim S393216 ![] bcast_S_S393216 (constant S_ .f32 0x322BCC77#32))) (ix1 n)
        = Ideal.div (Row.const 0x437F0000#32) (x (ix1 n) + Row.const 0x322BCC77#32) := by pointwise
  exact (h (range a0 a1 a2 a3 a5 a6 a7 a8)).trans
    (congrArg (fun x : Ideal .f32 => Ideal.div (Row.const 0x437F0000#32) (x + Row.const 0x322BCC77#32)) (range_at ..))

theorem code_at (n : Fin 393216) (d : Fin 192) :
    code a0 a1 a2 a3 a4 a5 a6 a7 a8 (ix2 n d)
      = Row.code (gN a0 a1 a2 a3 n) (cN a5 n) (rN a4 n) (a6 (ix1 n)) (a7 (ix1 n)) (a8 (ix1 n)) d := by
  have h (x y z w : FVec Ideal S393216x192 .f32) :
      trunci 8 (fptosi 32 (minimumf (broadcastInDim S393216x192 ![] bcast_S_S393216x192 (id (constant S_ .f32 0x437F0000#32)))
        (maximumf (broadcastInDim S393216x192 ![] bcast_S_S393216x192 (id (constant S_ .f32 0x00000000#32)))
          (Host.floor (addf (mulf (subf x y) z) w))))) natLt_8_32 (ix2 n d)
        = (Ideal.fptosi 32 (min (Row.const 0x437F0000#32) (max (Row.const 0x00000000#32)
            (Ideal.liftRound Int.floor ((x (ix2 n d) - y (ix2 n d)) * z (ix2 n d) + w (ix2 n d)))))).setWidth 8 := by
    simp only [id]
    pointwise
    rfl
  refine (h (new a0 a1 a2 a3 a5 a6 a7 a8) (spread (least a0 a1 a2 a3 a5 a6 a7 a8)) (spread (factor a0 a1 a2 a3 a5 a6 a7 a8))
    (noise a4)).trans ?_
  rw [new_at, spread_at, spread_at, least_at, factor_at, noise_at]
  rfl

end Cert.ReferenceIdeal.Steps
-- ==== Proof.RunRef.lean ====
/- The reference's run: its four results as the steps of `Steps`. -/
module

public import proofs.«01_k».proof.Proof.Ref
public import proofs.«01_k».proof.Proof.Gen.ReferenceIdeal.Run
public import proofs.«01_k».proof.Defs
public import Idealize.ShloMosaic.Lib.Claim

@[expose] public section

noncomputable section

namespace Cert.ReferenceIdeal.Steps

open Idealize.ShloMosaic Idealize.ShloMosaic.TcCoe Idealize.ShloMosaic.StableHlo
open Idealize.SL Idealize.SL.Sem Cert.ReferenceIdeal

variable (m : (ℓ : Loc nD τ sig) → Buf (Elt Ideal) ℓ) (ρ : Dev nD → PrngReg) (c : Dev nD)

theorem res_code : Value.res_main_v59 (F := Ideal) m c
    = code (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  rfl

theorem res_scale : Value.res_main_v39 (F := Ideal) m c
    = scale (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5))
      (m ((c.tc : Thread nD τ).loc main_arg6)) (m ((c.tc : Thread nD τ).loc main_arg7)) (m ((c.tc : Thread nD τ).loc main_arg8)) := by
  rfl

theorem res_least : Value.res_main_v35 (F := Ideal) m c
    = least (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5))
      (m ((c.tc : Thread nD τ).loc main_arg6)) (m ((c.tc : Thread nD τ).loc main_arg7)) (m ((c.tc : Thread nD τ).loc main_arg8)) := by
  rfl

/-- The run of the reference, its four results by name, the arguments unchanged. -/
theorem run_steps :
    θ_run defs (onTc (τ := τ) (main (F := Ideal))) ⟨m, fun _ => 0, ρ⟩ fun r => ∀ c : Dev nD,
      r.2.mem ((c.tc : Thread nD τ).loc main_v59) = code (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v39) = scale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v35) = least (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v25) = state (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res_code m c), (h c).2.1.trans (res_scale m c), (h c).2.2.1.trans (res_least m c), (h c).2.2.2.1,
    (h c).2.2.2.2⟩) (Value.run (F := Ideal) m ρ)

end Cert.ReferenceIdeal.Steps
-- ==== Proof.Group.lean ====
/- One block of the update kernel as a function of the values it loads.

   A block holds 1024 table rows, in eight groups of 128 lanes; a row of the table is one lane, its 192
   features run down the sublanes in 24 tiles of eight. Everything here is stated over six loaders, one
   per input block, so that it fits a block read from a value and a block read through a buffer alike:

     ld0  gradient sums, 192 x 8 x 128     ld3  row scales, 8 x 128
     ld1  random words, 192 x 1024         ld4  row biases, 8 x 128
     ld2  packed codes, 48 x 1024          ld5  momentum, 8 x 128
-/
module

public import proofs.«01_k».proof.Proof.Gen.KernelIdeal

@[expose] public section

noncomputable section

namespace Cert.KernelIdeal.Group

open Idealize.ShloMosaic Idealize.SL.Sem Cert.KernelIdeal.Gen

variable {F : FTy → Type} [FloatOps F]

/-! ## The rectangles a group loads and stores -/

/-- The sublane of group `t` in a block of one number per row. -/
def rowRect (t : Nat) : Rect S8x128 :=
  Rect.unit (s := S8x128) ![t % 8, 0] S1x128.size (fun a => by
    have := Nat.mod_lt t (show 0 < 8 by decide)
    fin_cases a <;> simp <;> omega)

/-- Tile `i` of the gradient sums of group `t`. -/
def gradRect (t i : Nat) : Rect S192x8x128 :=
  Rect.unit (s := S192x8x128) ![8 * (i % 24), t % 8, 0] S8x1x128.size (fun a => by
    have := Nat.mod_lt t (show 0 < 8 by decide)
    have := Nat.mod_lt i (show 0 < 24 by decide)
    fin_cases a <;> simp <;> omega)

/-- The packed words of the four tiles `4k .. 4k+3` of group `t`. -/
def codeRect (t k : Nat) : Rect S48x1024 :=
  Rect.unit (s := S48x1024) ![8 * (k % 6), 128 * (t % 8)] S8x128.size (fun a => by
    have := Nat.mod_lt t (show 0 < 8 by decide)
    have := Nat.mod_lt k (show 0 < 6 by decide)
    fin_cases a <;> simp <;> omega)

/-- Tile `i` of the random words of group `t`. -/
def randRect (t i : Nat) : Rect S192x1024 :=
  Rect.unit (s := S192x1024) ![8 * (i % 24), 128 * (t % 8)] S8x128.size (fun a => by
    have := Nat.mod_lt t (show 0 < 8 by decide)
    have := Nat.mod_lt i (show 0 < 24 by decide)
    fin_cases a <;> simp <;> omega)

/-- Where the four code tiles `4k .. 4k+3` of group `t` are stored. -/
def outRect (t k : Nat) : Rect S192x1024 :=
  Rect.unit (s := S192x1024) ![32 * (k % 6), 128 * (t % 8)] S32x128.size (fun a => by
    have := Nat.mod_lt t (show 0 < 8 by decide)
    have := Nat.mod_lt k (show 0 < 6 by decide)
    fin_cases a <;> simp <;> omega)

theorem slices_tile (j : Nat) : S32x128.Slices ![8 * (j % 4), 0] S8x128 := by
  have h : j % 4 = 0 ∨ j % 4 = 1 ∨ j % 4 = 2 ∨ j % 4 = 3 := by omega
  rcases h with h | h | h | h <;> rw [h]
  · exact slices_S32x128_o0_0_S8x128
  · exact slices_S32x128_o8_0_S8x128
  · exact slices_S32x128_o16_0_S8x128
  · exact slices_S32x128_o24_0_S8x128

/-! ## What a group computes -/

variable (ld0 : (B : Rect S192x8x128) → B.shape.Idx → Elt F .f32) (ld1 : (B : Rect S192x1024) → B.shape.Idx → Elt F .i32)
  (ld2 : (B : Rect S48x1024) → B.shape.Idx → Elt F .i32) (ld3 ld4 ld5 : (B : Rect S8x128) → B.shape.Idx → Elt F .f32)

/-- One number per lane, from a loaded sublane. -/
def row (ld : (B : Rect S8x128) → B.shape.Idx → Elt F .f32) (t : Nat) : FVec F S1x128 .f32 :=
  shapeCast S1x128 (show Vec F S1x128 .f32 from ld (rowRect t)) shapeCasts_S1x128_S1x128

/-- The codes of the tiles `4k .. 4k+3`, as numbers. -/
def codes (t k : Nat) : FVec F S32x128 .f32 :=
  sitofp .f32 (extui 32 (bitcast S32x128 8 (show Vec F S8x128 .i32 from ld2 (codeRect t k)) bitcasts_S8x128_w32_S32x128_w8) natLt_8_32)

/-- The weights of tile `i`: code times scale plus bias. -/
def w (t i : Nat) : FVec F S8x128 .f32 :=
  addf (mulf (extractStridedSlice S8x128 ![8 * (i % 4), 0] (codes ld2 t (i / 4)) (slices_tile i))
    (broadcastTo S8x128 (row ld3 t) broadcasts_S1x128_S8x128)) (broadcastTo S8x128 (row ld4 t) broadcasts_S1x128_S8x128)

/-- The decayed gradients of tile `i`. -/
def g2 (t i : Nat) : FVec F S8x128 .f32 :=
  addf (shapeCast S8x128 (show Vec F S8x1x128 .f32 from ld0 (gradRect t i)) shapeCasts_S8x1x128_S8x128)
    (mulf (broadcast S8x128 (Scalar.ofBits .f32 0x3D4CCCCD#32)) (w ld2 ld3 ld4 t i))

/-- The squares of the first `n` tiles summed, lane by lane and sublane by sublane. -/
def sumSq (t n : Nat) : FVec F S8x128 .f32 :=
  Nat.rec (motive := fun _ => FVec F S8x128 .f32) (broadcast S8x128 (Scalar.ofBits .f32 0x00000000#32))
    (fun i a => addf a (mulf (g2 ld0 ld2 ld3 ld4 t i) (g2 ld0 ld2 ld3 ld4 t i))) n

/-- The new momentum. -/
def state (t : Nat) : FVec F S1x128 .f32 :=
  addf (row ld5 t) (divf (shapeCast S1x128 (multiReduction .add [0] S128 (sumSq ld0 ld2 ld3 ld4 t 24) 0x00000000#32
    reduces_S8x128_S128 (.inl rfl) rfl) shapeCasts_S128_S1x128) (broadcast S1x128 (Scalar.ofBits .f32 0x43400000#32)))

/-- The step size. -/
def mult (t : Nat) : FVec F S1x128 .f32 :=
  divf (broadcast S1x128 (Scalar.ofBits .f32 0x3CA3D70A#32))
    (addf (sqrt (state ld0 ld2 ld3 ld4 ld5 t)) (broadcast S1x128 (Scalar.ofBits .f32 0x322BCC77#32)))

/-- The updated weights of tile `i`. -/
def wnew (t i : Nat) : FVec F S8x128 .f32 :=
  subf (w ld2 ld3 ld4 t i) (mulf (broadcastTo S8x128 (mult ld0 ld2 ld3 ld4 ld5 t) broadcasts_S1x128_S8x128) (g2 ld0 ld2 ld3 ld4 t i))

/-- The least of the tiles `0 .. n`, sublane by sublane. -/
def minTo (t n : Nat) : FVec F S8x128 .f32 :=
  Nat.rec (motive := fun _ => FVec F S8x128 .f32) (wnew ld0 ld2 ld3 ld4 ld5 t 0)
    (fun i a => minimumf a (wnew ld0 ld2 ld3 ld4 ld5 t (i + 1))) n

/-- The greatest of the tiles `0 .. n`, sublane by sublane. -/
def maxTo (t n : Nat) : FVec F S8x128 .f32 :=
  Nat.rec (motive := fun _ => FVec F S8x128 .f32) (wnew ld0 ld2 ld3 ld4 ld5 t 0)
    (fun i a => maximumf a (wnew ld0 ld2 ld3 ld4 ld5 t (i + 1))) n

/-- The least weight of a row, which is its new bias. -/
def mn (t : Nat) : FVec F S1x128 .f32 :=
  shapeCast S1x128 (multiReduction .minimumf [0] S128 (minTo ld0 ld2 ld3 ld4 ld5 t 23) 0x7F800000#32
    reduces_S8x128_S128 (.inl rfl) rfl) shapeCasts_S128_S1x128

/-- The greatest weight of a row. -/
def mx (t : Nat) : FVec F S1x128 .f32 :=
  shapeCast S1x128 (multiReduction .maximumf [0] S128 (maxTo ld0 ld2 ld3 ld4 ld5 t 23) 0xFF800000#32
    reduces_S8x128_S128 (.inl rfl) rfl) shapeCasts_S128_S1x128

/-- The range of a row. -/
def rng (t : Nat) : FVec F S1x128 .f32 := subf (mx ld0 ld2 ld3 ld4 ld5 t) (mn ld0 ld2 ld3 ld4 ld5 t)

/-- The new scale of a row. -/
def qs (t : Nat) : FVec F S1x128 .f32 :=
  divf (rng ld0 ld2 ld3 ld4 ld5 t) (broadcast S1x128 (Scalar.ofBits .f32 0x437F0000#32))

/-- The factor weights are brought to codes with. -/
def inv (t : Nat) : FVec F S1x128 .f32 :=
  divf (broadcast S1x128 (Scalar.ofBits .f32 0x437F0000#32))
    (addf (rng ld0 ld2 ld3 ld4 ld5 t) (broadcast S1x128 (Scalar.ofBits .f32 0x322BCC77#32)))

/-- The new codes of tile `i`, as words. -/
def q (t i : Nat) : IVec S8x128 32 :=
  fptosi 32 (minimumf (broadcast S8x128 (Scalar.ofBits .f32 0x437F0000#32))
    (maximumf (broadcast S8x128 (Scalar.ofBits .f32 0x00000000#32))
      (floor (addf
        (mulf (subf (wnew ld0 ld2 ld3 ld4 ld5 t i) (broadcastTo S8x128 (mn ld0 ld2 ld3 ld4 ld5 t) broadcasts_S1x128_S8x128))
          (broadcastTo S8x128 (inv ld0 ld2 ld3 ld4 ld5 t) broadcasts_S1x128_S8x128))
        (mulf (sitofp .f32 (shrui (shapeCast S8x128 (show Vec F S8x128 .i32 from ld1 (randRect t i)) shapeCasts_S8x128_S8x128)
            (broadcast S8x128 8#32)))
          (broadcast S8x128 (Scalar.ofBits .f32 0x33800000#32)))))))

/-- The new codes of the tiles `4k .. 4k+3`, as bytes. -/
def qBytes (t k : Nat) : IVec S32x128 8 :=
  trunci 8 (concatenate S32x128 0 [⟨S8x128, q ld0 ld1 ld2 ld3 ld4 ld5 t (4 * k)⟩, ⟨S8x128, q ld0 ld1 ld2 ld3 ld4 ld5 t (4 * k + 1)⟩,
    ⟨S8x128, q ld0 ld1 ld2 ld3 ld4 ld5 t (4 * k + 2)⟩, ⟨S8x128, q ld0 ld1 ld2 ld3 ld4 ld5 t (4 * k + 3)⟩]
    concatenates_S8x128_S8x128_S8x128_S8x128_S32x128_d0) natLt_8_32

/-! ## The stores of a block, the last first -/

/-- The stores of a block of one number per row. -/
def rowPieces (f : Nat → FVec F S1x128 .f32) : List (View.Piece (Elt F) S8x128 .f32) :=
  [⟨rowRect 7, f 7⟩, ⟨rowRect 6, f 6⟩, ⟨rowRect 5, f 5⟩, ⟨rowRect 4, f 4⟩, ⟨rowRect 3, f 3⟩, ⟨rowRect 2, f 2⟩,
    ⟨rowRect 1, f 1⟩, ⟨rowRect 0, f 0⟩]

/-- The stores of one group of codes over the stores `L` before it. -/
def codePiecesAt (f : Nat → Nat → IVec S32x128 8) (t : Nat) (L : List (View.Piece (Elt F) S192x1024 .i8)) :
    List (View.Piece (Elt F) S192x1024 .i8) :=
  ⟨outRect t 5, f t 5⟩ :: ⟨outRect t 4, f t 4⟩ :: ⟨outRect t 3, f t 3⟩ :: ⟨outRect t 2, f t 2⟩ :: ⟨outRect t 1, f t 1⟩
    :: ⟨outRect t 0, f t 0⟩ :: L

/-- The stores of a block of codes. -/
def codePieces (f : Nat → Nat → IVec S32x128 8) : List (View.Piece (Elt F) S192x1024 .i8) :=
  codePiecesAt f 7 <| codePiecesAt f 6 <| codePiecesAt f 5 <| codePiecesAt f 4 <| codePiecesAt f 3 <| codePiecesAt f 2
    <| codePiecesAt f 1 <| codePiecesAt f 0 []

end Cert.KernelIdeal.Group
-- ==== Proof.GroupAt.lean ====
/- The values of one group (Group.lean) read lane by lane: each is the update of one row (Row.lean). -/
module

public import proofs.«01_k».proof.Proof.Group
public import proofs.«01_k».proof.Proof.Row
public import Idealize.ShloMosaic.Lib.BitcastPair

@[expose] public section

noncomputable section

namespace Cert.KernelIdeal.Group

open Idealize.ShloMosaic Idealize.SL.Sem Cert.KernelIdeal.Gen

/-- The loader of a block with contents `X`. -/
abbrev of {S : Shape} {e : EltTy} (X : Vec Ideal S e) : (B : Rect S) → B.shape.Idx → Elt Ideal e := fun B x => X (B.idx x)

variable (X0 : Vec Ideal S192x8x128 .f32) (X1 : Vec Ideal S192x1024 .i32) (X2 : Vec Ideal S48x1024 .i32)
  (X3 X4 X5 : Vec Ideal S8x128 .f32)

/-! ## One lane's row of the block -/

/-- Feature `r` of tile `i`. -/
def feat (i : Fin 24) (r : Fin 8) : Fin 192 := ⟨8 * i.val + r.val, by omega⟩

/-- Lane `l` of group `t` among the 1024 rows of the block. -/
def lane (t : Fin 8) (l : Fin 128) : Fin 1024 := ⟨128 * t.val + l.val, by omega⟩

/-- The row's gradient sums. -/
def gR (t : Fin 8) (l : Fin 128) (d : Fin 192) : Ideal .f32 := X0 (ix3 d t l)

/-- The row's old codes. -/
def cR (t : Fin 8) (l : Fin 128) (d : Fin 192) : Ideal .f32 :=
  Row.codeOf (X2 (ix2 ⟨d.val / 4, by omega⟩ (lane t l))) (d.val % 4)

/-- The row's noise. -/
def rR (t : Fin 8) (l : Fin 128) (d : Fin 192) : Ideal .f32 := Row.noiseOf (X1 (ix2 d (lane t l)))

theorem rowRect_idx (t : Fin 8) (l : Fin 128) : (rowRect t.val).idx (ix2 0 l) = ix2 t l :=
  funext fun a => Fin.ext (by
    have := t.isLt
    fin_cases a <;> simp [rowRect, ix2, Nat.mod_eq_of_lt this])

theorem gradRect_idx (t : Fin 8) (l : Fin 128) (i : Fin 24) (r : Fin 8) :
    (gradRect t.val i.val).idx (ix3 r 0 l) = ix3 (feat i r) t l :=
  funext fun a => Fin.ext (by
    have := t.isLt
    have := i.isLt
    fin_cases a <;> simp [gradRect, ix3, feat, Nat.mod_eq_of_lt this, Nat.mod_eq_of_lt t.isLt])

theorem randRect_idx (t : Fin 8) (l : Fin 128) (i : Fin 24) (r : Fin 8) :
    (randRect t.val i.val).idx (ix2 r l) = ix2 (feat i r) (lane t l) :=
  funext fun a => Fin.ext (by
    have := t.isLt
    have := i.isLt
    fin_cases a <;> simp [randRect, ix2, feat, lane, Nat.mod_eq_of_lt this, Nat.mod_eq_of_lt t.isLt])

theorem codeRect_idx (t : Fin 8) (l : Fin 128) (k : Fin 6) (p : Fin 8) :
    (codeRect t.val k.val).idx (ix2 p l) = ix2 ⟨8 * k.val + p.val, by omega⟩ (lane t l) :=
  funext fun a => Fin.ext (by
    have := t.isLt
    have := k.isLt
    fin_cases a <;> simp [codeRect, ix2, lane, Nat.mod_eq_of_lt this, Nat.mod_eq_of_lt t.isLt])

theorem row_at (t : Fin 8) (l : Fin 128) : row (of X3) t.val (ix2 0 l) = X3 (ix2 t l) := by
  rw [show X3 (ix2 t l) = of X3 (rowRect t.val) (ix2 0 l) from (congrArg X3 (rowRect_idx t l)).symm]
  unfold row
  pointwise

theorem g_at (t : Fin 8) (l : Fin 128) (i : Fin 24) (r : Fin 8) :
    shapeCast S8x128 (show Vec Ideal S8x1x128 .f32 from of X0 (gradRect t.val i.val)) shapeCasts_S8x1x128_S8x128 (ix2 r l)
      = gR X0 t l (feat i r) := by
  rw [show gR X0 t l (feat i r) = of X0 (gradRect t.val i.val) (ix3 r 0 l) from (congrArg X0 (gradRect_idx t l i r)).symm]
  pointwise

theorem rand_at (t : Fin 8) (l : Fin 128) (i : Fin 24) (r : Fin 8) :
    shapeCast S8x128 (show Vec Ideal S8x128 .i32 from of X1 (randRect t.val i.val)) shapeCasts_S8x128_S8x128 (ix2 r l)
      = X1 (ix2 (feat i r) (lane t l)) := by
  rw [show X1 (ix2 (feat i r) (lane t l)) = of X1 (randRect t.val i.val) (ix2 r l)
    from (congrArg X1 (randRect_idx t l i r)).symm]
  pointwise

/-- A reinterpreted word row by row: row `p` is byte `p % 4` of word row `p / 4`. -/
theorem bytes_at (x : S8x128.Idx → BitVec 32) (p : Fin 32) (l : Fin 128) :
    bitcast S32x128 8 x bitcasts_S8x128_w32_S32x128_w8 (ix2 p l)
      = (x (ix2 ⟨p.val / 4, by omega⟩ l)).extractLsb' (p.val % 4 * 8) 8 := by
  apply BitVec.eq_of_getLsbD_eq
  intro q hq
  rw [bitcast_getLsbD x _ _ q hq (by decide), BitVec.getLsbD_extractLsb']
  have hrow : S32x128.row (ix2 p l) = p.val := rfl
  have e : (S32x128.row (ix2 p l) * 8 + q) / 32 = p.val / 4 := by rw [hrow]; omega
  have e' : (S32x128.row (ix2 p l) * 8 + q) % 32 = p.val % 4 * 8 + q := by rw [hrow]; omega
  rw [e', Shape.Bitcasts.srcIdx_congr _ _ e _ (by intro a ha; fin_cases a <;> simp_all <;> omega)]
  simp only [hq, decide_true, Bool.true_and]
  congr 2
  funext a
  apply Fin.ext
  fin_cases a
  · exact Shape.Bitcasts.srcIdx_row _ _ _ _ _ rfl
  · exact Shape.Bitcasts.srcIdx_other _ _ _ _ _ (by decide)

theorem codes_at (t : Fin 8) (l : Fin 128) (k : Fin 6) (p : Fin 32) :
    codes (of X2) t.val k.val (ix2 p l)
      = Row.codeOf (X2 (ix2 ⟨8 * k.val + p.val / 4, by omega⟩ (lane t l))) (p.val % 4) := by
  unfold codes Row.codeOf
  have h := bytes_at (show Vec Ideal S8x128 .i32 from of X2 (codeRect t.val k.val)) p l
  rw [show (show Vec Ideal S8x128 .i32 from of X2 (codeRect t.val k.val)) (ix2 ⟨p.val / 4, by omega⟩ l)
      = X2 (ix2 ⟨8 * k.val + p.val / 4, by omega⟩ (lane t l))
      from congrArg X2 (codeRect_idx t l k ⟨p.val / 4, by omega⟩)] at h
  rw [← h]
  rfl

theorem w_at (t : Fin 8) (l : Fin 128) (i : Fin 24) (r : Fin 8) :
    w (of X2) (of X3) (of X4) t.val i.val (ix2 r l)
      = Row.weight (cR X2 t l) (X3 (ix2 t l)) (X4 (ix2 t l)) (feat i r) := by
  have hc := codes_at X2 t l ⟨i.val / 4, by omega⟩ ⟨8 * (i.val % 4) + r.val, by omega⟩
  have e : cR X2 t l (feat i r) = codes (of X2) t.val (i.val / 4) (ix2 ⟨8 * (i.val % 4) + r.val, by omega⟩ l) := by
    rw [hc]
    unfold cR feat
    congr 1
    · congr 2
      apply Fin.ext
      show (8 * i.val + r.val) / 4 = 8 * (i.val / 4) + (8 * (i.val % 4) + r.val) / 4
      omega
    · show (8 * i.val + r.val) % 4 = (8 * (i.val % 4) + r.val) % 4
      omega
  unfold Row.weight
  rw [e, ← row_at X3 t l, ← row_at X4 t l]
  unfold w
  pointwise

theorem g2_at (t : Fin 8) (l : Fin 128) (i : Fin 24) (r : Fin 8) :
    g2 (of X0) (of X2) (of X3) (of X4) t.val i.val (ix2 r l)
      = Row.grad (gR X0 t l) (cR X2 t l) (X3 (ix2 t l)) (X4 (ix2 t l)) (feat i r) := by
  unfold Row.grad
  rw [← w_at, ← g_at]
  unfold g2
  rfl

/-! ## The 192 features as 24 tiles of eight -/

/-- A feature's tile and its place there. -/
theorem feat_surj (d : Fin 192) : ∃ i r, feat i r = d :=
  ⟨⟨d.val / 8, by omega⟩, ⟨d.val % 8, by omega⟩, Fin.ext (by show 8 * (d.val / 8) + d.val % 8 = d.val; omega)⟩

/-- The sum over the features is the sum over the places of a tile of the sums over the tiles. -/
theorem sum_feat {M : Type} [AddCommMonoid M] (f : Fin 192 → M) : ∑ d, f d = ∑ r : Fin 8, ∑ i : Fin 24, f (feat i r) := by
  rw [Finset.sum_comm, ← Finset.sum_product']
  refine (Finset.sum_bij (fun (p : Fin 24 × Fin 8) _ => feat p.1 p.2) (fun _ _ => Finset.mem_univ _) ?_ ?_ (fun _ _ => rfl)).symm
  · rintro ⟨i, r⟩ _ ⟨i', r'⟩ _ h
    have h : 8 * i.val + r.val = 8 * i'.val + r'.val := congrArg Fin.val h
    ext <;> simp <;> omega
  · intro d _
    obtain ⟨i, r, h⟩ := feat_surj d
    exact ⟨(i, r), Finset.mem_univ _, h⟩

theorem sumSq_at (t : Fin 8) (l : Fin 128) (r : Fin 8) (n : Nat) :
    sumSq (of X0) (of X2) (of X3) (of X4) t.val n (ix2 r l)
      = ∑ i ∈ Finset.range n, g2 (of X0) (of X2) (of X3) (of X4) t.val i (ix2 r l)
          * g2 (of X0) (of X2) (of X3) (of X4) t.val i (ix2 r l) := by
  induction n with
  | zero =>
    rw [Finset.sum_range_zero]
    exact Ideal.ofBits_zero_f32
  | succ n ih =>
    rw [Finset.sum_range_succ, ← ih]
    rfl

theorem state_at (t : Fin 8) (l : Fin 128) :
    state (of X0) (of X2) (of X3) (of X4) (of X5) t.val (ix2 0 l)
      = Row.state (gR X0 t l) (cR X2 t l) (X3 (ix2 t l)) (X4 (ix2 t l)) (X5 (ix2 t l)) := by
  unfold Row.state
  rw [sum_feat]
  simp only [← g2_at]
  rw [← row_at X5]
  unfold state
  pointwise
  simp only [sumSq_at, Finset.sum_range]

theorem mult_at (t : Fin 8) (l : Fin 128) :
    mult (of X0) (of X2) (of X3) (of X4) (of X5) t.val (ix2 0 l)
      = Row.step (gR X0 t l) (cR X2 t l) (X3 (ix2 t l)) (X4 (ix2 t l)) (X5 (ix2 t l)) := by
  unfold Row.step
  rw [← state_at]
  rfl

theorem wnew_at (t : Fin 8) (l : Fin 128) (i : Fin 24) (r : Fin 8) :
    wnew (of X0) (of X2) (of X3) (of X4) (of X5) t.val i.val (ix2 r l)
      = Row.new (gR X0 t l) (cR X2 t l) (X3 (ix2 t l)) (X4 (ix2 t l)) (X5 (ix2 t l)) (feat i r) := by
  unfold Row.new
  rw [← w_at, ← g2_at, ← mult_at]
  unfold wnew
  pointwise

theorem le_minTo (t : Fin 8) (l : Fin 128) (r : Fin 8) (n : Nat) (a : Ideal .f32) :
    a ≤ minTo (of X0) (of X2) (of X3) (of X4) (of X5) t.val n (ix2 r l)
      ↔ ∀ i ≤ n, a ≤ wnew (of X0) (of X2) (of X3) (of X4) (of X5) t.val i (ix2 r l) := by
  induction n with
  | zero => simp [minTo]
  | succ n ih =>
    have e : minTo (of X0) (of X2) (of X3) (of X4) (of X5) t.val (n + 1) (ix2 r l)
        = min (minTo (of X0) (of X2) (of X3) (of X4) (of X5) t.val n (ix2 r l))
            (wnew (of X0) (of X2) (of X3) (of X4) (of X5) t.val (n + 1) (ix2 r l)) := rfl
    rw [e, le_min_iff, ih]
    constructor
    · rintro ⟨h, h'⟩ i hi
      rcases Nat.lt_or_eq_of_le hi with hi | rfl
      · exact h i (by omega)
      · exact h'
    · exact fun h => ⟨fun i hi => h i (by omega), h _ le_rfl⟩

theorem maxTo_le (t : Fin 8) (l : Fin 128) (r : Fin 8) (n : Nat) (a : Ideal .f32) :
    maxTo (of X0) (of X2) (of X3) (of X4) (of X5) t.val n (ix2 r l) ≤ a
      ↔ ∀ i ≤ n, wnew (of X0) (of X2) (of X3) (of X4) (of X5) t.val i (ix2 r l) ≤ a := by
  induction n with
  | zero => simp [maxTo]
  | succ n ih =>
    have e : maxTo (of X0) (of X2) (of X3) (of X4) (of X5) t.val (n + 1) (ix2 r l)
        = max (maxTo (of X0) (of X2) (of X3) (of X4) (of X5) t.val n (ix2 r l))
            (wnew (of X0) (of X2) (of X3) (of X4) (of X5) t.val (n + 1) (ix2 r l)) := rfl
    rw [e, max_le_iff, ih]
    constructor
    · rintro ⟨h, h'⟩ i hi
      rcases Nat.lt_or_eq_of_le hi with hi | rfl
      · exact h i (by omega)
      · exact h'
    · exact fun h => ⟨fun i hi => h i (by omega), h _ le_rfl⟩

theorem mn_at (t : Fin 8) (l : Fin 128) :
    mn (of X0) (of X2) (of X3) (of X4) (of X5) t.val (ix2 0 l)
      = Row.least (gR X0 t l) (cR X2 t l) (X3 (ix2 t l)) (X4 (ix2 t l)) (X5 (ix2 t l)) := by
  have e : mn (of X0) (of X2) (of X3) (of X4) (of X5) t.val (ix2 0 l)
      = (Finset.univ : Finset (Fin 8)).fold min (Row.const 0x7F800000#32)
          fun r => minTo (of X0) (of X2) (of X3) (of X4) (of X5) t.val 23 (ix2 r l) := by
    unfold mn
    pointwise
  rw [e]
  unfold Row.least
  refine eq_of_forall_le_iff fun a => ?_
  rw [Finset.le_fold_min, Finset.le_fold_min]
  refine and_congr Iff.rfl ?_
  simp only [le_minTo, Finset.mem_univ, true_implies]
  constructor
  · intro h d
    obtain ⟨i, r, rfl⟩ := feat_surj d
    rw [← wnew_at]
    exact h r i.val (by omega)
  · intro h r i hi
    have := h (feat ⟨i, by omega⟩ r)
    rwa [← wnew_at] at this

theorem mx_at (t : Fin 8) (l : Fin 128) :
    mx (of X0) (of X2) (of X3) (of X4) (of X5) t.val (ix2 0 l)
      = Row.greatest (gR X0 t l) (cR X2 t l) (X3 (ix2 t l)) (X4 (ix2 t l)) (X5 (ix2 t l)) := by
  have e : mx (of X0) (of X2) (of X3) (of X4) (of X5) t.val (ix2 0 l)
      = (Finset.univ : Finset (Fin 8)).fold max (Row.const 0xFF800000#32)
          fun r => maxTo (of X0) (of X2) (of X3) (of X4) (of X5) t.val 23 (ix2 r l) := by
    unfold mx
    pointwise
  rw [e]
  unfold Row.greatest
  refine eq_of_forall_ge_iff fun a => ?_
  rw [Finset.fold_max_le, Finset.fold_max_le]
  refine and_congr Iff.rfl ?_
  simp only [maxTo_le, Finset.mem_univ, true_implies]
  constructor
  · intro h d
    obtain ⟨i, r, rfl⟩ := feat_surj d
    rw [← wnew_at]
    exact h r i.val (by omega)
  · intro h r i hi
    have := h (feat ⟨i, by omega⟩ r)
    rwa [← wnew_at] at this

theorem rng_at (t : Fin 8) (l : Fin 128) :
    rng (of X0) (of X2) (of X3) (of X4) (of X5) t.val (ix2 0 l)
      = Row.range (gR X0 t l) (cR X2 t l) (X3 (ix2 t l)) (X4 (ix2 t l)) (X5 (ix2 t l)) := by
  unfold Row.range
  rw [← mn_at, ← mx_at]
  rfl

theorem qs_at (t : Fin 8) (l : Fin 128) :
    qs (of X0) (of X2) (of X3) (of X4) (of X5) t.val (ix2 0 l)
      = Row.scale (gR X0 t l) (cR X2 t l) (X3 (ix2 t l)) (X4 (ix2 t l)) (X5 (ix2 t l)) := by
  unfold Row.scale
  rw [← rng_at]
  rfl

theorem inv_at (t : Fin 8) (l : Fin 128) :
    inv (of X0) (of X2) (of X3) (of X4) (of X5) t.val (ix2 0 l)
      = Row.factor (gR X0 t l) (cR X2 t l) (X3 (ix2 t l)) (X4 (ix2 t l)) (X5 (ix2 t l)) := by
  unfold Row.factor
  rw [← rng_at]
  rfl

theorem q_at (t : Fin 8) (l : Fin 128) (i : Fin 24) (r : Fin 8) :
    q (of X0) (of X1) (of X2) (of X3) (of X4) (of X5) t.val i.val (ix2 r l)
      = Row.codeWord (gR X0 t l) (cR X2 t l) (rR X1 t l) (X3 (ix2 t l)) (X4 (ix2 t l)) (X5 (ix2 t l)) (feat i r) := by
  unfold Row.codeWord rR Row.noiseOf
  rw [← wnew_at, ← mn_at, ← inv_at, ← rand_at X1 t l i r]
  unfold q
  pointwise
  rfl

theorem qBytes_at (t : Fin 8) (l : Fin 128) (k : Fin 6) (p : Fin 32) :
    qBytes (of X0) (of X1) (of X2) (of X3) (of X4) (of X5) t.val k.val (ix2 p l)
      = Row.code (gR X0 t l) (cR X2 t l) (rR X1 t l) (X3 (ix2 t l)) (X4 (ix2 t l)) (X5 (ix2 t l))
          ⟨32 * k.val + p.val, by omega⟩ := by
  have h := q_at X0 X1 X2 X3 X4 X5 t l ⟨4 * k.val + p.val / 8, by omega⟩ ⟨p.val % 8, by omega⟩
  have e : feat ⟨4 * k.val + p.val / 8, by omega⟩ ⟨p.val % 8, by omega⟩ = (⟨32 * k.val + p.val, by omega⟩ : Fin 192) :=
    Fin.ext (by show 8 * (4 * k.val + p.val / 8) + p.val % 8 = 32 * k.val + p.val; omega)
  unfold Row.code
  rw [← e, ← h]
  unfold qBytes
  pointwise
  fin_vals p with hp
  all_goals simp only [hp, Nat.reduceSub, Nat.reduceLT, ↓reduceDIte]
  all_goals rfl

end Cert.KernelIdeal.Group
-- ==== Proof.PiecesAt.lean ====
/- What the stores of a block leave, read back at one place of the block. -/
module

public import proofs.«01_k».proof.Proof.GroupAt
public import Idealize.ShloMosaic.Lib.Pipeline.ValueKit.Tiles

@[expose] public section

noncomputable section

namespace Cert.KernelIdeal.Group

open Idealize.ShloMosaic Idealize.SL.Sem Cert.KernelIdeal.Gen

/-- Where code `p` of the group `k` of four tiles lands. -/
def code (k : Fin 6) (p : Fin 32) : Fin 192 := ⟨32 * k.val + p.val, by omega⟩

theorem code_surj (d : Fin 192) : ∃ k p, code k p = d :=
  ⟨⟨d.val / 32, by omega⟩, ⟨d.val % 32, by omega⟩, Fin.ext (by show 32 * (d.val / 32) + d.val % 32 = d.val; omega)⟩

theorem lane_surj (c : Fin 1024) : ∃ t l, lane t l = c :=
  ⟨⟨c.val / 128, by omega⟩, ⟨c.val % 128, by omega⟩, Fin.ext (by show 128 * (c.val / 128) + c.val % 128 = c.val; omega)⟩

theorem outRect_idx (t : Fin 8) (l : Fin 128) (k : Fin 6) (p : Fin 32) :
    (outRect t.val k.val).idx (ix2 p l) = ix2 (code k p) (lane t l) :=
  funext fun a => Fin.ext (by
    have := t.isLt
    have := k.isLt
    fin_cases a <;> simp [outRect, ix2, lane, code, Nat.mod_eq_of_lt this, Nat.mod_eq_of_lt t.isLt])

theorem rowPiece_at (f : Nat → FVec Ideal S1x128 .f32) (t : Fin 8) (l : Fin 128) (n : Fin 8) :
    View.RectAt (Val := Elt Ideal) (e := .f32) (ix2 t l) (rowRect n.val) (f n.val) (f t.val (ix2 0 l)) := by
  intro x hx
  have e : x = ix2 (0 : Fin 1) ⟨(x 1).val, (x 1).isLt⟩ := funext fun a => Fin.ext (by
    fin_cases a
    · have : (x 0).val < 1 := (x 0).isLt
      show (x 0).val = 0
      omega
    · rfl)
  have h := (rowRect_idx n ⟨(x 1).val, (x 1).isLt⟩).symm.trans ((congrArg (rowRect n.val).idx e).symm.trans hx)
  have h0 : n = t := congrFun h 0
  have h1 : (⟨(x 1).val, (x 1).isLt⟩ : Fin 128) = l := congrFun h 1
  rw [← h0]
  exact congrArg (f n.val) (e.trans (congrArg (ix2 (0 : Fin 1)) h1))

theorem canon_rows (f : Nat → FVec Ideal S1x128 .f32) (t : Fin 8) (l : Fin 128) :
    View.canon (rowPieces f) (ix2 t l) = f t.val (ix2 0 l) := by
  refine View.canon_eq_of_allAt _ _ _ ⟨⟨rowRect t.val, f t.val⟩, by fin_cases t <;> simp [rowPieces], ?_⟩ ?_
  · rw [← rowRect_idx]
    exact (rowRect t.val).idx_mem (ix2 0 l)
  · have h := rowPiece_at f t l
    exact View.allAt_cons _ _ _ (h 7) <| View.allAt_cons _ _ _ (h 6) <| View.allAt_cons _ _ _ (h 5) <|
      View.allAt_cons _ _ _ (h 4) <| View.allAt_cons _ _ _ (h 3) <| View.allAt_cons _ _ _ (h 2) <|
      View.allAt_cons _ _ _ (h 1) <| View.allAt_cons _ _ _ (h 0) <| View.allAt_nil _ _

theorem codePiece_at (f : Nat → Nat → IVec S32x128 8) (t : Fin 8) (l : Fin 128) (k : Fin 6) (p : Fin 32) (n : Fin 8) (j : Fin 6) :
    View.RectAt (Val := Elt Ideal) (e := .i8) (ix2 (code k p) (lane t l)) (outRect n.val j.val) (f n.val j.val)
      (f t.val k.val (ix2 p l)) := by
  intro x hx
  have e : x = ix2 (⟨(x 0).val, (x 0).isLt⟩ : Fin 32) (⟨(x 1).val, (x 1).isLt⟩ : Fin 128) :=
    funext fun a => Fin.ext (by fin_cases a <;> rfl)
  have h := (outRect_idx n _ j _).symm.trans ((congrArg (outRect n.val j.val).idx e).symm.trans hx)
  have h0 : 32 * j.val + (x 0).val = 32 * k.val + p.val := congrArg Fin.val (congrFun h 0)
  have h1 : 128 * n.val + (x 1).val = 128 * t.val + l.val := congrArg Fin.val (congrFun h 1)
  have a0 : (x 0).val < 32 := (x 0).isLt
  have a1 : (x 1).val < 128 := (x 1).isLt
  have e0 : (⟨(x 0).val, (x 0).isLt⟩ : Fin 32) = p := Fin.ext (by show (x 0).val = p.val; omega)
  have e1 : (⟨(x 1).val, (x 1).isLt⟩ : Fin 128) = l := Fin.ext (by show (x 1).val = l.val; omega)
  have en : n = t := by omega
  have ej : j = k := by omega
  rw [← en, ← ej]
  exact congrArg (f n.val j.val) (e.trans (congrArg₂ ix2 e0 e1))

theorem codePiecesAt_all (f : Nat → Nat → IVec S32x128 8) (t : Fin 8) (l : Fin 128) (k : Fin 6) (p : Fin 32) (n : Fin 8)
    (L : List (View.Piece (Elt Ideal) S192x1024 .i8))
    (h : View.AllAt (Val := Elt Ideal) L (ix2 (code k p) (lane t l)) (f t.val k.val (ix2 p l))) :
    View.AllAt (Val := Elt Ideal) (codePiecesAt f n.val L) (ix2 (code k p) (lane t l)) (f t.val k.val (ix2 p l)) := by
  have h' := codePiece_at f t l k p n
  exact View.allAt_cons _ _ _ (h' 5) <| View.allAt_cons _ _ _ (h' 4) <| View.allAt_cons _ _ _ (h' 3) <|
      View.allAt_cons _ _ _ (h' 2) <| View.allAt_cons _ _ _ (h' 1) <| View.allAt_cons _ _ _ (h' 0) h

theorem canon_codes (f : Nat → Nat → IVec S32x128 8) (t : Fin 8) (l : Fin 128) (k : Fin 6) (p : Fin 32) :
    View.canon (Val := Elt Ideal) (codePieces f) (ix2 (code k p) (lane t l)) = f t.val k.val (ix2 p l) := by
  refine View.canon_eq_of_allAt _ _ _ ⟨⟨outRect t.val k.val, f t.val k.val⟩, ?_, ?_⟩ ?_
  · have h (n : Nat) (L : List (View.Piece (Elt Ideal) S192x1024 .i8)) (k : Fin 6) :
        (⟨outRect n k.val, f n k.val⟩ : View.Piece (Elt Ideal) S192x1024 .i8) ∈ codePiecesAt f n L := by
      fin_cases k <;> simp [codePiecesAt]
    have h' (n : Nat) (L : List (View.Piece (Elt Ideal) S192x1024 .i8)) (q) (hq : q ∈ L) : q ∈ codePiecesAt f n L := by
      simp [codePiecesAt, hq]
    unfold codePieces
    fin_cases t
    · iterate 7 refine h' _ _ _ ?_
      exact h _ _ k
    · iterate 6 refine h' _ _ _ ?_
      exact h _ _ k
    · iterate 5 refine h' _ _ _ ?_
      exact h _ _ k
    · iterate 4 refine h' _ _ _ ?_
      exact h _ _ k
    · iterate 3 refine h' _ _ _ ?_
      exact h _ _ k
    · iterate 2 refine h' _ _ _ ?_
      exact h _ _ k
    · refine h' _ _ _ ?_
      exact h _ _ k
    · exact h _ _ k
  · rw [← outRect_idx]
    exact (outRect t.val k.val).idx_mem (ix2 p l)
  · have h := codePiecesAt_all f t l k p
    exact h 7 _ <| h 6 _ <| h 5 _ <| h 4 _ <| h 3 _ <| h 2 _ <| h 1 _ <| h 0 _ <| View.allAt_nil _ _

end Cert.KernelIdeal.Group
-- ==== Proof.Block0.lean ====
/- What the body of the first call leaves in its four output blocks: the eight groups' stores. -/
module

public import proofs.«01_k».proof.Proof.PiecesAt
public import proofs.«01_k».proof.Proof.Gen.KernelIdeal.Frame.Region0

@[expose] public section

noncomputable section

namespace Cert.KernelIdeal.Block

open Idealize.ShloMosaic Idealize.SL.Sem Cert.KernelIdeal.Gen Cert.KernelIdeal.Group Idealize.ShloMosaic.Tactic

variable (x0 : Vec Ideal S192x8x128 .f32) (x1 : Vec Ideal S192x1024 .i32) (x2 : Vec Ideal S48x1024 .i32)
  (x3 x4 x5 : Vec Ideal S8x128 .f32)

set_option maxRecDepth 100000 in
theorem out0_6_eq : out0_6 x0 x1 x2 x3 x4 x5 = View.canon (codePieces (qBytes (of x0) (of x1) (of x2) (of x3) (of x4) (of x5))) := by
  sl_kernel_rfl

set_option maxRecDepth 100000 in
theorem out0_7_eq : out0_7 x0 x1 x2 x3 x4 x5 = View.canon (rowPieces (qs (of x0) (of x2) (of x3) (of x4) (of x5))) := by
  sl_kernel_rfl

set_option maxRecDepth 100000 in
theorem out0_8_eq : out0_8 x0 x1 x2 x3 x4 x5 = View.canon (rowPieces (mn (of x0) (of x2) (of x3) (of x4) (of x5))) := by
  sl_kernel_rfl

set_option maxRecDepth 100000 in
theorem out0_9_eq : out0_9 x0 x1 x2 x3 x4 x5 = View.canon (rowPieces (state (of x0) (of x2) (of x3) (of x4) (of x5))) := by
  sl_kernel_rfl

end Cert.KernelIdeal.Block
-- ==== Proof.Arrays.lean ====
/- What the stores of a block say about the rows of the arrays: the block `b` holds the rows `1024 b` onwards. -/
module

public import proofs.«01_k».proof.Proof.PiecesAt

@[expose] public section

noncomputable section

namespace Cert.KernelIdeal.Arrays

open Idealize.ShloMosaic Idealize.SL.Sem Cert.KernelIdeal.Gen Cert.KernelIdeal.Group

variable (A0 : Vec Ideal S192x768x128 .f32) (A1 : Vec Ideal S192x393216 .i32) (A2 : Vec Ideal S48x393216 .i32)
  (A3 A4 A5 : Vec Ideal S3072x128 .f32)

/-- The gradient sums of row `n`, from the quarter of the rows it lies in. -/
def gA (n : Fin 393216) (d : Fin 192) : Ideal .f32 := A0 (ix3 d ⟨n.val % 98304 / 128, by omega⟩ ⟨n.val % 128, by omega⟩)

/-- The old codes of row `n`. -/
def cA (n : Fin 393216) (d : Fin 192) : Ideal .f32 := Row.codeOf (A2 (ix2 ⟨d.val / 4, by omega⟩ n)) (d.val % 4)

/-- The noise of row `n`. -/
def rA (n : Fin 393216) (d : Fin 192) : Ideal .f32 := Row.noiseOf (A1 (ix2 d n))

/-- One number of row `n`. -/
def sA (A : Vec Ideal S3072x128 .f32) (n : Fin 393216) : Ideal .f32 := A (ix2 ⟨n.val / 128, by omega⟩ ⟨n.val % 128, by omega⟩)

/-- The row at a place of an array of one number per row. -/
def rowAt (R : Fin 3072) (l : Fin 128) : Fin 393216 := ⟨128 * R.val + l.val, by omega⟩

theorem sA_rowAt (A : Vec Ideal S3072x128 .f32) (R : Fin 3072) (l : Fin 128) : sA A (rowAt R l) = A (ix2 R l) := by
  unfold sA rowAt
  congr 2 <;> apply Fin.ext
  · show (128 * R.val + l.val) / 128 = R.val
    omega
  · show (128 * R.val + l.val) % 128 = l.val
    omega

/-- The new scales. -/
def scaleA : Vec Ideal S3072x128 .f32 := fun i =>
  Row.scale (gA A0 (rowAt (i 0) (i 1))) (cA A2 (rowAt (i 0) (i 1))) (sA A3 (rowAt (i 0) (i 1))) (sA A4 (rowAt (i 0) (i 1)))
    (sA A5 (rowAt (i 0) (i 1)))

/-- The new biases. -/
def leastA : Vec Ideal S3072x128 .f32 := fun i =>
  Row.least (gA A0 (rowAt (i 0) (i 1))) (cA A2 (rowAt (i 0) (i 1))) (sA A3 (rowAt (i 0) (i 1))) (sA A4 (rowAt (i 0) (i 1)))
    (sA A5 (rowAt (i 0) (i 1)))

/-- The new momentum. -/
def stateA : Vec Ideal S3072x128 .f32 := fun i =>
  Row.state (gA A0 (rowAt (i 0) (i 1))) (cA A2 (rowAt (i 0) (i 1))) (sA A3 (rowAt (i 0) (i 1))) (sA A4 (rowAt (i 0) (i 1)))
    (sA A5 (rowAt (i 0) (i 1)))

/-- The new codes. -/
def codeA : Vec Ideal S192x393216 .i8 := fun i =>
  Row.code (gA A0 (i 1)) (cA A2 (i 1)) (rA A1 (i 1)) (sA A3 (i 1)) (sA A4 (i 1)) (sA A5 (i 1)) (i 0)

variable (x0 : Vec Ideal S192x8x128 .f32) (x1 : Vec Ideal S192x1024 .i32) (x2 : Vec Ideal S48x1024 .i32)
  (x3 x4 x5 : Vec Ideal S8x128 .f32)

/-- The six blocks are those of block `b`. -/
structure Blocks (b : Fin 384) : Prop where
  h0 : ∀ d t l, x0 (ix3 d t l) = A0 (ix3 d ⟨8 * (b.val % 96) + t.val, by omega⟩ l)
  h1 : ∀ d c, x1 (ix2 d c) = A1 (ix2 d ⟨1024 * b.val + c.val, by omega⟩)
  h2 : ∀ d c, x2 (ix2 d c) = A2 (ix2 d ⟨1024 * b.val + c.val, by omega⟩)
  h3 : ∀ t l, x3 (ix2 t l) = A3 (ix2 ⟨8 * b.val + t.val, by omega⟩ l)
  h4 : ∀ t l, x4 (ix2 t l) = A4 (ix2 ⟨8 * b.val + t.val, by omega⟩ l)
  h5 : ∀ t l, x5 (ix2 t l) = A5 (ix2 ⟨8 * b.val + t.val, by omega⟩ l)

/-- Row `1024 b + 128 t + l`. -/
def rowIn (b : Fin 384) (t : Fin 8) (l : Fin 128) : Fin 393216 := ⟨1024 * b.val + (128 * t.val + l.val), by omega⟩

variable {A0 A1 A2 A3 A4 A5 x0 x1 x2 x3 x4 x5} {b : Fin 384} (h : Blocks A0 A1 A2 A3 A4 A5 x0 x1 x2 x3 x4 x5 b)
include h

theorem gR_eq (t : Fin 8) (l : Fin 128) : gR x0 t l = gA A0 (rowIn b t l) := by
  funext d
  unfold gR gA rowIn
  rw [h.h0]
  congr 2 <;> apply Fin.ext
  · show 8 * (b.val % 96) + t.val = (1024 * b.val + (128 * t.val + l.val)) % 98304 / 128
    omega
  · show l.val = (1024 * b.val + (128 * t.val + l.val)) % 128
    omega

theorem cR_eq (t : Fin 8) (l : Fin 128) : cR x2 t l = cA A2 (rowIn b t l) := by
  funext d
  unfold cR cA
  rw [h.h2]
  rfl

theorem rR_eq (t : Fin 8) (l : Fin 128) : rR x1 t l = rA A1 (rowIn b t l) := by
  funext d
  unfold rR rA
  rw [h.h1]
  rfl

omit h in
theorem sA_rowIn (A : Vec Ideal S3072x128 .f32) (b : Fin 384) (t : Fin 8) (l : Fin 128) :
    sA A (rowIn b t l) = A (ix2 ⟨8 * b.val + t.val, by omega⟩ l) := by
  refine Eq.trans (congrArg (sA A) (Fin.ext ?_)) (sA_rowAt A ⟨8 * b.val + t.val, by omega⟩ l)
  show 1024 * b.val + (128 * t.val + l.val) = 128 * (8 * b.val + t.val) + l.val
  omega

omit h in
theorem rowAt_eq (b : Fin 384) (t : Fin 8) (l : Fin 128) : rowAt ⟨8 * b.val + t.val, by omega⟩ l = rowIn b t l :=
  Fin.ext (by
    show 128 * (8 * b.val + t.val) + l.val = 1024 * b.val + (128 * t.val + l.val)
    omega)

theorem scale_block (t : Fin 8) (l : Fin 128) :
    View.canon (rowPieces (qs (of x0) (of x2) (of x3) (of x4) (of x5))) (ix2 t l)
      = scaleA A0 A2 A3 A4 A5 (ix2 ⟨8 * b.val + t.val, by omega⟩ l) := by
  rw [canon_rows, qs_at, gR_eq h, cR_eq h, h.h3, h.h4, h.h5, ← sA_rowIn A3, ← sA_rowIn A4, ← sA_rowIn A5, ← rowAt_eq]
  rfl

theorem least_block (t : Fin 8) (l : Fin 128) :
    View.canon (rowPieces (mn (of x0) (of x2) (of x3) (of x4) (of x5))) (ix2 t l)
      = leastA A0 A2 A3 A4 A5 (ix2 ⟨8 * b.val + t.val, by omega⟩ l) := by
  rw [canon_rows, mn_at, gR_eq h, cR_eq h, h.h3, h.h4, h.h5, ← sA_rowIn A3, ← sA_rowIn A4, ← sA_rowIn A5, ← rowAt_eq]
  rfl

theorem state_block (t : Fin 8) (l : Fin 128) :
    View.canon (rowPieces (state (of x0) (of x2) (of x3) (of x4) (of x5))) (ix2 t l)
      = stateA A0 A2 A3 A4 A5 (ix2 ⟨8 * b.val + t.val, by omega⟩ l) := by
  rw [canon_rows, state_at, gR_eq h, cR_eq h, h.h3, h.h4, h.h5, ← sA_rowIn A3, ← sA_rowIn A4, ← sA_rowIn A5, ← rowAt_eq]
  rfl

theorem code_block (d : Fin 192) (e : Fin 1024) :
    View.canon (codePieces (qBytes (of x0) (of x1) (of x2) (of x3) (of x4) (of x5))) (ix2 d e)
      = codeA A0 A1 A2 A3 A4 A5 (ix2 d ⟨1024 * b.val + e.val, by omega⟩) := by
  obtain ⟨k, p, rfl⟩ := code_surj d
  obtain ⟨t, l, rfl⟩ := lane_surj e
  rw [canon_codes, qBytes_at, gR_eq h, cR_eq h, rR_eq h, h.h3, h.h4, h.h5, ← sA_rowIn A3, ← sA_rowIn A4, ← sA_rowIn A5]
  rfl

end Cert.KernelIdeal.Arrays
-- ==== Proof.Region0.lean ====
/- The arrays the first call leaves: its quarter of the rows is new, the others are kept. -/
module

public import proofs.«01_k».proof.Proof.Block0
public import proofs.«01_k».proof.Proof.Arrays
public import Idealize.ShloMosaic.Lib.Pipeline.ValueKit

@[expose] public section

noncomputable section

namespace Cert.KernelIdeal.Arrays

open Idealize.ShloMosaic Idealize.ShloMosaic.TcCoe Idealize.ShloMosaic.Tactic
open Idealize.SL Idealize.SL.Sem Cert.KernelIdeal.Gen Cert.KernelIdeal.Group Cert.KernelIdeal.Block

theorem at0_0 : ∀ t : Fin cfg0.N, win0_0.index t = ![0, t.val, 0] := (by decide +kernel : ∀ t : Fin grid0.N, _)
theorem at0_1 : ∀ t : Fin cfg0.N, win0_1.index t = ![0, t.val] := (by decide +kernel : ∀ t : Fin grid0.N, _)
theorem at0_2 : ∀ t : Fin cfg0.N, win0_2.index t = ![0, t.val] := (by decide +kernel : ∀ t : Fin grid0.N, _)
theorem at0_3 : ∀ t : Fin cfg0.N, win0_3.index t = ![t.val, 0] := (by decide +kernel : ∀ t : Fin grid0.N, _)
theorem at0_4 : ∀ t : Fin cfg0.N, win0_4.index t = ![t.val, 0] := (by decide +kernel : ∀ t : Fin grid0.N, _)
theorem at0_5 : ∀ t : Fin cfg0.N, win0_5.index t = ![t.val, 0] := (by decide +kernel : ∀ t : Fin grid0.N, _)
theorem at0_6 : ∀ t : Fin cfg0.N, win0_6.index t = ![0, t.val] := (by decide +kernel : ∀ t : Fin grid0.N, _)
theorem at0_7 : ∀ t : Fin cfg0.N, win0_7.index t = ![t.val, 0] := (by decide +kernel : ∀ t : Fin grid0.N, _)
theorem at0_8 : ∀ t : Fin cfg0.N, win0_8.index t = ![t.val, 0] := (by decide +kernel : ∀ t : Fin grid0.N, _)
theorem at0_9 : ∀ t : Fin cfg0.N, win0_9.index t = ![t.val, 0] := (by decide +kernel : ∀ t : Fin grid0.N, _)

variable (V : (c : Dev nD) → (b : Ref sig .tc) → Buf (Elt Ideal) ((c : Thread nD τ).loc b))

set_option maxHeartbeats 2000000 in
theorem blocks0 (c : Dev nD) (t : Fin cfg0.N) (ht : t.val < 384) :
    Blocks (V c main_v1) (V c main_v0) (V c main_arg5) (V c main_v2) (V c main_v3) (V c main_v4)
      (iblk0 V c 0 t) (iblk0 V c 1 t) (iblk0 V c 2 t) (iblk0 V c 3 t) (iblk0 V c 4 t) (iblk0 V c 5 t) ⟨t.val, ht⟩ := by
  have hb : t.val < 96 := t.isLt
  have hm : (t.val) % 96 = t.val := by omega
  constructor
  · intro d g l
    unfold iblk0
    blk_simp
    simp only [hm]
    blk_ext [at0_0 t]
  · intro d e
    unfold iblk0
    blk_simp
    blk_ext [at0_1 t]
  · intro d e
    unfold iblk0
    blk_simp
    blk_ext [at0_2 t]
  · intro d e
    unfold iblk0
    blk_simp
    blk_ext [at0_3 t]
  · intro d e
    unfold iblk0
    blk_simp
    blk_ext [at0_4 t]
  · intro d e
    unfold iblk0
    blk_simp
    blk_ext [at0_5 t]

theorem scale0 (c : Dev nD) :
    (dat0 V c).arrAt 7 cfg0.N = fun i => if (i 0 : Nat) / 8 / 96 = 0
      then scaleA (V c main_v1) (V c main_arg5) (V c main_v2) (V c main_v3) (V c main_v4) i else V c main_v5_1 i := by
  refine (dat0 V c).arrAt_eq_of_coversWhere 7 _ (fun β => β (0 : Fin _) / 96 = 0) (by decide +kernel) (fun t hf y => ?_) (fun j => Iff.rfl)
  have hb : t.val < 96 := t.isLt
  have ht : t.val < 384 := by omega
  blk_simp
  rw [after0_7]
  obtain ⟨g, l, rfl⟩ : ∃ (g : Fin 8) (l : Fin 128), y = ix2 g l := ⟨y 0, y 1, by blk_ext⟩
  refine (congrFun (out0_7_eq ..) _).trans ((scale_block (blocks0 V c t ht) g l).trans (congrArg _ ?_))
  blk_ext [at0_7 t]

theorem least0 (c : Dev nD) :
    (dat0 V c).arrAt 8 cfg0.N = fun i => if (i 0 : Nat) / 8 / 96 = 0
      then leastA (V c main_v1) (V c main_arg5) (V c main_v2) (V c main_v3) (V c main_v4) i else V c main_v5_2 i := by
  refine (dat0 V c).arrAt_eq_of_coversWhere 8 _ (fun β => β (0 : Fin _) / 96 = 0) (by decide +kernel) (fun t hf y => ?_) (fun j => Iff.rfl)
  have hb : t.val < 96 := t.isLt
  have ht : t.val < 384 := by omega
  blk_simp
  rw [after0_8]
  obtain ⟨g, l, rfl⟩ : ∃ (g : Fin 8) (l : Fin 128), y = ix2 g l := ⟨y 0, y 1, by blk_ext⟩
  refine (congrFun (out0_8_eq ..) _).trans ((least_block (blocks0 V c t ht) g l).trans (congrArg _ ?_))
  blk_ext [at0_8 t]

theorem state0 (c : Dev nD) :
    (dat0 V c).arrAt 9 cfg0.N = fun i => if (i 0 : Nat) / 8 / 96 = 0
      then stateA (V c main_v1) (V c main_arg5) (V c main_v2) (V c main_v3) (V c main_v4) i else V c main_v5_3 i := by
  refine (dat0 V c).arrAt_eq_of_coversWhere 9 _ (fun β => β (0 : Fin _) / 96 = 0) (by decide +kernel) (fun t hf y => ?_) (fun j => Iff.rfl)
  have hb : t.val < 96 := t.isLt
  have ht : t.val < 384 := by omega
  blk_simp
  rw [after0_9]
  obtain ⟨g, l, rfl⟩ : ∃ (g : Fin 8) (l : Fin 128), y = ix2 g l := ⟨y 0, y 1, by blk_ext⟩
  refine (congrFun (out0_9_eq ..) _).trans ((state_block (blocks0 V c t ht) g l).trans (congrArg _ ?_))
  blk_ext [at0_9 t]

theorem code0 (c : Dev nD) :
    (dat0 V c).arrAt 6 cfg0.N = fun i => if (i 1 : Nat) / 1024 / 96 = 0
      then codeA (V c main_v1) (V c main_v0) (V c main_arg5) (V c main_v2) (V c main_v3) (V c main_v4) i else V c main_v5_0 i := by
  refine (dat0 V c).arrAt_eq_of_coversWhere 6 _ (fun β => β (1 : Fin _) / 96 = 0) (by decide +kernel) (fun t hf y => ?_) (fun j => Iff.rfl)
  have hb : t.val < 96 := t.isLt
  have ht : t.val < 384 := by omega
  blk_simp
  rw [after0_6]
  obtain ⟨d, e, rfl⟩ : ∃ (d : Fin 192) (e : Fin 1024), y = ix2 d e := ⟨y 0, y 1, by blk_ext⟩
  refine (congrFun (out0_6_eq ..) _).trans ((code_block (blocks0 V c t ht) d e).trans (congrArg _ ?_))
  blk_ext [at0_6 t]

end Cert.KernelIdeal.Arrays
-- ==== Proof.Via.lean ====
/- Blocks read through the buffers that hold them. -/
module

public import proofs.«01_k».proof.Proof.PiecesAt
public import Idealize.ShloMosaic.Lib.WholeRead

@[expose] public section

noncomputable section

namespace Cert.KernelIdeal.Block

open Idealize.ShloMosaic Idealize.ShloMosaic.TcCoe
open Idealize.SL Idealize.SL.Sem Cert.KernelIdeal.Gen Cert.KernelIdeal.Group

/-- The loader of a block through a whole buffer that holds it. -/
def via {S : Shape} {e : EltTy} (arg : Memref sig .tc .vmem S e) (harg : arg.IsWhole) (X : Vec Ideal S e) :
    (B : Rect S) → B.shape.Idx → Elt Ideal e := fun B => View.readAt (Elt Ideal) arg.view B (harg.unread X)

theorem via_eq {S : Shape} {e : EltTy} (arg : Memref sig .tc .vmem S e) (harg : arg.IsWhole) (X : Vec Ideal S e) :
    via arg harg X = of X := by
  funext B x
  exact harg.readAt_unread X B x

end Cert.KernelIdeal.Block
-- ==== Proof.Block1.lean ====
/- What the body of call 1 leaves in its four output blocks: the eight groups' stores. -/
module

public import proofs.«01_k».proof.Proof.Via
public import proofs.«01_k».proof.Proof.Gen.KernelIdeal.Frame.Region1

@[expose] public section

noncomputable section

namespace Cert.KernelIdeal.Block

open Idealize.ShloMosaic Idealize.ShloMosaic.TcCoe Idealize.ShloMosaic.Tactic
open Idealize.SL Idealize.SL.Sem Cert.KernelIdeal.Gen Cert.KernelIdeal.Group

variable (c : Dev nD) (i : grid1.Coords) (arg1 : Memref sig .tc .vmem S192x8x128 .f32) (harg1 : arg1.IsWhole) (arg2 : Memref sig .tc .vmem S192x1024 .i32) (harg2 : arg2.IsWhole)
  (arg3 : Memref sig .tc .vmem S48x1024 .i32) (harg3 : arg3.IsWhole) (arg4 : Memref sig .tc .vmem S8x128 .f32) (harg4 : arg4.IsWhole)
  (arg5 : Memref sig .tc .vmem S8x128 .f32) (harg5 : arg5.IsWhole) (arg6 : Memref sig .tc .vmem S8x128 .f32) (harg6 : arg6.IsWhole)
  (arg11 : Memref sig .tc .vmem S192x1024 .i8) (harg11 : arg11.IsWhole) (arg12 : Memref sig .tc .vmem S8x128 .f32) (harg12 : arg12.IsWhole)
  (arg13 : Memref sig .tc .vmem S8x128 .f32) (harg13 : arg13.IsWhole) (arg14 : Memref sig .tc .vmem S8x128 .f32) (harg14 : arg14.IsWhole)
  (x0 : Vec Ideal S192x8x128 .f32) (x1 : Vec Ideal S192x1024 .i32) (x2 : Vec Ideal S48x1024 .i32)
  (x3 x4 x5 : Vec Ideal S8x128 .f32)

set_option maxRecDepth 100000 in
theorem pieces1_6 : (kernelRun1_A (F := Ideal) c i arg1 harg1 arg2 harg2 arg3 harg3 arg4 harg4 arg5 harg5 arg6 harg6 arg11 harg11 arg12 harg12 arg13 harg13 arg14 harg14 x0 x1 x2 x3 x4 x5).1 = codePieces (qBytes (via arg1 harg1 x0) (via arg2 harg2 x1) (via arg3 harg3 x2) (via arg4 harg4 x3) (via arg5 harg5 x4) (via arg6 harg6 x5)) := by
  sl_kernel_rfl

theorem out1_A_6_eq : out1_A_6 (F := Ideal) c i arg1 harg1 arg2 harg2 arg3 harg3 arg4 harg4 arg5 harg5 arg6 harg6 arg11 harg11 arg12 harg12 arg13 harg13 arg14 harg14 x0 x1 x2 x3 x4 x5 = View.canon (codePieces (qBytes (of x0) (of x1) (of x2) (of x3) (of x4) (of x5))) := by
  unfold out1_A_6
  rw [View.read_writes_junk_eq_canon, pieces1_6]
  simp only [via_eq]

set_option maxRecDepth 100000 in
theorem pieces1_7 : (kernelRun1_A (F := Ideal) c i arg1 harg1 arg2 harg2 arg3 harg3 arg4 harg4 arg5 harg5 arg6 harg6 arg11 harg11 arg12 harg12 arg13 harg13 arg14 harg14 x0 x1 x2 x3 x4 x5).2.1 = rowPieces (qs (via arg1 harg1 x0) (via arg3 harg3 x2) (via arg4 harg4 x3) (via arg5 harg5 x4) (via arg6 harg6 x5)) := by
  sl_kernel_rfl

theorem out1_A_7_eq : out1_A_7 (F := Ideal) c i arg1 harg1 arg2 harg2 arg3 harg3 arg4 harg4 arg5 harg5 arg6 harg6 arg11 harg11 arg12 harg12 arg13 harg13 arg14 harg14 x0 x1 x2 x3 x4 x5 = View.canon (rowPieces (qs (of x0) (of x2) (of x3) (of x4) (of x5))) := by
  unfold out1_A_7
  rw [View.read_writes_junk_eq_canon, pieces1_7]
  simp only [via_eq]

set_option maxRecDepth 100000 in
theorem pieces1_8 : (kernelRun1_A (F := Ideal) c i arg1 harg1 arg2 harg2 arg3 harg3 arg4 harg4 arg5 harg5 arg6 harg6 arg11 harg11 arg12 harg12 arg13 harg13 arg14 harg14 x0 x1 x2 x3 x4 x5).2.2.1 = rowPieces (mn (via arg1 harg1 x0) (via arg3 harg3 x2) (via arg4 harg4 x3) (via arg5 harg5 x4) (via arg6 harg6 x5)) := by
  sl_kernel_rfl

theorem out1_A_8_eq : out1_A_8 (F := Ideal) c i arg1 harg1 arg2 harg2 arg3 harg3 arg4 harg4 arg5 harg5 arg6 harg6 arg11 harg11 arg12 harg12 arg13 harg13 arg14 harg14 x0 x1 x2 x3 x4 x5 = View.canon (rowPieces (mn (of x0) (of x2) (of x3) (of x4) (of x5))) := by
  unfold out1_A_8
  rw [View.read_writes_junk_eq_canon, pieces1_8]
  simp only [via_eq]

set_option maxRecDepth 100000 in
theorem pieces1_9 : (kernelRun1_A (F := Ideal) c i arg1 harg1 arg2 harg2 arg3 harg3 arg4 harg4 arg5 harg5 arg6 harg6 arg11 harg11 arg12 harg12 arg13 harg13 arg14 harg14 x0 x1 x2 x3 x4 x5).2.2.2.1 = rowPieces (state (via arg1 harg1 x0) (via arg3 harg3 x2) (via arg4 harg4 x3) (via arg5 harg5 x4) (via arg6 harg6 x5)) := by
  sl_kernel_rfl

theorem out1_A_9_eq : out1_A_9 (F := Ideal) c i arg1 harg1 arg2 harg2 arg3 harg3 arg4 harg4 arg5 harg5 arg6 harg6 arg11 harg11 arg12 harg12 arg13 harg13 arg14 harg14 x0 x1 x2 x3 x4 x5 = View.canon (rowPieces (state (of x0) (of x2) (of x3) (of x4) (of x5))) := by
  unfold out1_A_9
  rw [View.read_writes_junk_eq_canon, pieces1_9]
  simp only [via_eq]

end Cert.KernelIdeal.Block
-- ==== Proof.Region1.lean ====
/- The arrays the second call leaves: its quarter of the rows is new, the others are kept. -/
module

public import proofs.«01_k».proof.Proof.Block1
public import proofs.«01_k».proof.Proof.Arrays
public import Idealize.ShloMosaic.Lib.Pipeline.ValueKit

@[expose] public section

noncomputable section

namespace Cert.KernelIdeal.Arrays

open Idealize.ShloMosaic Idealize.ShloMosaic.TcCoe Idealize.ShloMosaic.Tactic
open Idealize.SL Idealize.SL.Sem Cert.KernelIdeal.Gen Cert.KernelIdeal.Group Cert.KernelIdeal.Block

theorem at1_0 : ∀ t : Fin cfg1.N, win1_0.index t = ![0, t.val, 0] := (by decide +kernel : ∀ t : Fin grid1.N, _)
theorem at1_1 : ∀ t : Fin cfg1.N, win1_1.index t = ![0, 96 + t.val] := (by decide +kernel : ∀ t : Fin grid1.N, _)
theorem at1_2 : ∀ t : Fin cfg1.N, win1_2.index t = ![0, 96 + t.val] := (by decide +kernel : ∀ t : Fin grid1.N, _)
theorem at1_3 : ∀ t : Fin cfg1.N, win1_3.index t = ![96 + t.val, 0] := (by decide +kernel : ∀ t : Fin grid1.N, _)
theorem at1_4 : ∀ t : Fin cfg1.N, win1_4.index t = ![96 + t.val, 0] := (by decide +kernel : ∀ t : Fin grid1.N, _)
theorem at1_5 : ∀ t : Fin cfg1.N, win1_5.index t = ![96 + t.val, 0] := (by decide +kernel : ∀ t : Fin grid1.N, _)
theorem at1_6 : ∀ t : Fin cfg1.N, win1_6.index t = ![0, 96 + t.val] := (by decide +kernel : ∀ t : Fin grid1.N, _)
theorem at1_7 : ∀ t : Fin cfg1.N, win1_7.index t = ![96 + t.val, 0] := (by decide +kernel : ∀ t : Fin grid1.N, _)
theorem at1_8 : ∀ t : Fin cfg1.N, win1_8.index t = ![96 + t.val, 0] := (by decide +kernel : ∀ t : Fin grid1.N, _)
theorem at1_9 : ∀ t : Fin cfg1.N, win1_9.index t = ![96 + t.val, 0] := (by decide +kernel : ∀ t : Fin grid1.N, _)

variable (V : (c : Dev nD) → (b : Ref sig .tc) → Buf (Elt Ideal) ((c : Thread nD τ).loc b))

set_option maxHeartbeats 2000000 in
theorem blocks1 (c : Dev nD) (t : Fin cfg1.N) (ht : 96 + t.val < 384) :
    Blocks (V c main_v7) (V c main_v6) (V c main_arg5) (V c main_v8) (V c main_v9) (V c main_v10)
      (iblk1 V c 0 t) (iblk1 V c 1 t) (iblk1 V c 2 t) (iblk1 V c 3 t) (iblk1 V c 4 t) (iblk1 V c 5 t) ⟨96 + t.val, ht⟩ := by
  have hb : t.val < 96 := t.isLt
  have hm : (96 + t.val) % 96 = t.val := by omega
  constructor
  · intro d g l
    unfold iblk1
    blk_simp
    simp only [hm]
    blk_ext [at1_0 t]
  · intro d e
    unfold iblk1
    blk_simp
    blk_ext [at1_1 t]
  · intro d e
    unfold iblk1
    blk_simp
    blk_ext [at1_2 t]
  · intro d e
    unfold iblk1
    blk_simp
    blk_ext [at1_3 t]
  · intro d e
    unfold iblk1
    blk_simp
    blk_ext [at1_4 t]
  · intro d e
    unfold iblk1
    blk_simp
    blk_ext [at1_5 t]

theorem outs1_7 (c : Dev nD) (t : Fin cfg1.N) : (outsAt1 V c t).2.1 = View.canon (rowPieces (qs (of (iblk1 V c 0 t)) (of (iblk1 V c 2 t)) (of (iblk1 V c 3 t)) (of (iblk1 V c 4 t)) (of (iblk1 V c 5 t)))) :=
  out1_A_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t)

theorem scale1 (c : Dev nD) :
    (dat1 V c).arrAt 7 cfg1.N = fun i => if (i 0 : Nat) / 8 / 96 = 1
      then scaleA (V c main_v7) (V c main_arg5) (V c main_v8) (V c main_v9) (V c main_v10) i else V c main_v11_1 i := by
  refine (dat1 V c).arrAt_eq_of_coversWhere 7 _ (fun β => β (0 : Fin _) / 96 = 1) (by decide +kernel) (fun t hf y => ?_) (fun j => Iff.rfl)
  have hb : t.val < 96 := t.isLt
  have ht : 96 + t.val < 384 := by omega
  blk_simp
  rw [after1_7]
  obtain ⟨g, l, rfl⟩ : ∃ (g : Fin 8) (l : Fin 128), y = ix2 g l := ⟨y 0, y 1, by blk_ext⟩
  refine (congrFun (outs1_7 V c t) _).trans ((scale_block (blocks1 V c t ht) g l).trans (congrArg _ ?_))
  blk_ext [at1_7 t]

theorem outs1_8 (c : Dev nD) (t : Fin cfg1.N) : (outsAt1 V c t).2.2.1 = View.canon (rowPieces (mn (of (iblk1 V c 0 t)) (of (iblk1 V c 2 t)) (of (iblk1 V c 3 t)) (of (iblk1 V c 4 t)) (of (iblk1 V c 5 t)))) :=
  out1_A_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t)

theorem least1 (c : Dev nD) :
    (dat1 V c).arrAt 8 cfg1.N = fun i => if (i 0 : Nat) / 8 / 96 = 1
      then leastA (V c main_v7) (V c main_arg5) (V c main_v8) (V c main_v9) (V c main_v10) i else V c main_v11_2 i := by
  refine (dat1 V c).arrAt_eq_of_coversWhere 8 _ (fun β => β (0 : Fin _) / 96 = 1) (by decide +kernel) (fun t hf y => ?_) (fun j => Iff.rfl)
  have hb : t.val < 96 := t.isLt
  have ht : 96 + t.val < 384 := by omega
  blk_simp
  rw [after1_8]
  obtain ⟨g, l, rfl⟩ : ∃ (g : Fin 8) (l : Fin 128), y = ix2 g l := ⟨y 0, y 1, by blk_ext⟩
  refine (congrFun (outs1_8 V c t) _).trans ((least_block (blocks1 V c t ht) g l).trans (congrArg _ ?_))
  blk_ext [at1_8 t]

theorem outs1_9 (c : Dev nD) (t : Fin cfg1.N) : (outsAt1 V c t).2.2.2 = View.canon (rowPieces (state (of (iblk1 V c 0 t)) (of (iblk1 V c 2 t)) (of (iblk1 V c 3 t)) (of (iblk1 V c 4 t)) (of (iblk1 V c 5 t)))) :=
  out1_A_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t)

theorem state1 (c : Dev nD) :
    (dat1 V c).arrAt 9 cfg1.N = fun i => if (i 0 : Nat) / 8 / 96 = 1
      then stateA (V c main_v7) (V c main_arg5) (V c main_v8) (V c main_v9) (V c main_v10) i else V c main_v11_3 i := by
  refine (dat1 V c).arrAt_eq_of_coversWhere 9 _ (fun β => β (0 : Fin _) / 96 = 1) (by decide +kernel) (fun t hf y => ?_) (fun j => Iff.rfl)
  have hb : t.val < 96 := t.isLt
  have ht : 96 + t.val < 384 := by omega
  blk_simp
  rw [after1_9]
  obtain ⟨g, l, rfl⟩ : ∃ (g : Fin 8) (l : Fin 128), y = ix2 g l := ⟨y 0, y 1, by blk_ext⟩
  refine (congrFun (outs1_9 V c t) _).trans ((state_block (blocks1 V c t ht) g l).trans (congrArg _ ?_))
  blk_ext [at1_9 t]

theorem outs1_6 (c : Dev nD) (t : Fin cfg1.N) : (outsAt1 V c t).1 = View.canon (codePieces (qBytes (of (iblk1 V c 0 t)) (of (iblk1 V c 1 t)) (of (iblk1 V c 2 t)) (of (iblk1 V c 3 t)) (of (iblk1 V c 4 t)) (of (iblk1 V c 5 t)))) :=
  out1_A_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t)

theorem code1 (c : Dev nD) :
    (dat1 V c).arrAt 6 cfg1.N = fun i => if (i 1 : Nat) / 1024 / 96 = 1
      then codeA (V c main_v7) (V c main_v6) (V c main_arg5) (V c main_v8) (V c main_v9) (V c main_v10) i else V c main_v11_0 i := by
  refine (dat1 V c).arrAt_eq_of_coversWhere 6 _ (fun β => β (1 : Fin _) / 96 = 1) (by decide +kernel) (fun t hf y => ?_) (fun j => Iff.rfl)
  have hb : t.val < 96 := t.isLt
  have ht : 96 + t.val < 384 := by omega
  blk_simp
  rw [after1_6]
  obtain ⟨d, e, rfl⟩ : ∃ (d : Fin 192) (e : Fin 1024), y = ix2 d e := ⟨y 0, y 1, by blk_ext⟩
  refine (congrFun (outs1_6 V c t) _).trans ((code_block (blocks1 V c t ht) d e).trans (congrArg _ ?_))
  blk_ext [at1_6 t]

end Cert.KernelIdeal.Arrays
-- ==== Proof.Block2.lean ====
/- What the body of call 2 leaves in its four output blocks: the eight groups' stores. -/
module

public import proofs.«01_k».proof.Proof.Via
public import proofs.«01_k».proof.Proof.Gen.KernelIdeal.Frame.Region2

@[expose] public section

noncomputable section

namespace Cert.KernelIdeal.Block

open Idealize.ShloMosaic Idealize.ShloMosaic.TcCoe Idealize.ShloMosaic.Tactic
open Idealize.SL Idealize.SL.Sem Cert.KernelIdeal.Gen Cert.KernelIdeal.Group

variable (c : Dev nD) (i : grid2.Coords) (arg1 : Memref sig .tc .vmem S192x8x128 .f32) (harg1 : arg1.IsWhole) (arg2 : Memref sig .tc .vmem S192x1024 .i32) (harg2 : arg2.IsWhole)
  (arg3 : Memref sig .tc .vmem S48x1024 .i32) (harg3 : arg3.IsWhole) (arg4 : Memref sig .tc .vmem S8x128 .f32) (harg4 : arg4.IsWhole)
  (arg5 : Memref sig .tc .vmem S8x128 .f32) (harg5 : arg5.IsWhole) (arg6 : Memref sig .tc .vmem S8x128 .f32) (harg6 : arg6.IsWhole)
  (arg11 : Memref sig .tc .vmem S192x1024 .i8) (harg11 : arg11.IsWhole) (arg12 : Memref sig .tc .vmem S8x128 .f32) (harg12 : arg12.IsWhole)
  (arg13 : Memref sig .tc .vmem S8x128 .f32) (harg13 : arg13.IsWhole) (arg14 : Memref sig .tc .vmem S8x128 .f32) (harg14 : arg14.IsWhole)
  (x0 : Vec Ideal S192x8x128 .f32) (x1 : Vec Ideal S192x1024 .i32) (x2 : Vec Ideal S48x1024 .i32)
  (x3 x4 x5 : Vec Ideal S8x128 .f32)

set_option maxRecDepth 100000 in
theorem pieces2_6 : (kernelRun2_A (F := Ideal) c i arg1 harg1 arg2 harg2 arg3 harg3 arg4 harg4 arg5 harg5 arg6 harg6 arg11 harg11 arg12 harg12 arg13 harg13 arg14 harg14 x0 x1 x2 x3 x4 x5).1 = codePieces (qBytes (via arg1 harg1 x0) (via arg2 harg2 x1) (via arg3 harg3 x2) (via arg4 harg4 x3) (via arg5 harg5 x4) (via arg6 harg6 x5)) := by
  sl_kernel_rfl

theorem out2_A_6_eq : out2_A_6 (F := Ideal) c i arg1 harg1 arg2 harg2 arg3 harg3 arg4 harg4 arg5 harg5 arg6 harg6 arg11 harg11 arg12 harg12 arg13 harg13 arg14 harg14 x0 x1 x2 x3 x4 x5 = View.canon (codePieces (qBytes (of x0) (of x1) (of x2) (of x3) (of x4) (of x5))) := by
  unfold out2_A_6
  rw [View.read_writes_junk_eq_canon, pieces2_6]
  simp only [via_eq]

set_option maxRecDepth 100000 in
theorem pieces2_7 : (kernelRun2_A (F := Ideal) c i arg1 harg1 arg2 harg2 arg3 harg3 arg4 harg4 arg5 harg5 arg6 harg6 arg11 harg11 arg12 harg12 arg13 harg13 arg14 harg14 x0 x1 x2 x3 x4 x5).2.1 = rowPieces (qs (via arg1 harg1 x0) (via arg3 harg3 x2) (via arg4 harg4 x3) (via arg5 harg5 x4) (via arg6 harg6 x5)) := by
  sl_kernel_rfl

theorem out2_A_7_eq : out2_A_7 (F := Ideal) c i arg1 harg1 arg2 harg2 arg3 harg3 arg4 harg4 arg5 harg5 arg6 harg6 arg11 harg11 arg12 harg12 arg13 harg13 arg14 harg14 x0 x1 x2 x3 x4 x5 = View.canon (rowPieces (qs (of x0) (of x2) (of x3) (of x4) (of x5))) := by
  unfold out2_A_7
  rw [View.read_writes_junk_eq_canon, pieces2_7]
  simp only [via_eq]

set_option maxRecDepth 100000 in
theorem pieces2_8 : (kernelRun2_A (F := Ideal) c i arg1 harg1 arg2 harg2 arg3 harg3 arg4 harg4 arg5 harg5 arg6 harg6 arg11 harg11 arg12 harg12 arg13 harg13 arg14 harg14 x0 x1 x2 x3 x4 x5).2.2.1 = rowPieces (mn (via arg1 harg1 x0) (via arg3 harg3 x2) (via arg4 harg4 x3) (via arg5 harg5 x4) (via arg6 harg6 x5)) := by
  sl_kernel_rfl

theorem out2_A_8_eq : out2_A_8 (F := Ideal) c i arg1 harg1 arg2 harg2 arg3 harg3 arg4 harg4 arg5 harg5 arg6 harg6 arg11 harg11 arg12 harg12 arg13 harg13 arg14 harg14 x0 x1 x2 x3 x4 x5 = View.canon (rowPieces (mn (of x0) (of x2) (of x3) (of x4) (of x5))) := by
  unfold out2_A_8
  rw [View.read_writes_junk_eq_canon, pieces2_8]
  simp only [via_eq]

set_option maxRecDepth 100000 in
theorem pieces2_9 : (kernelRun2_A (F := Ideal) c i arg1 harg1 arg2 harg2 arg3 harg3 arg4 harg4 arg5 harg5 arg6 harg6 arg11 harg11 arg12 harg12 arg13 harg13 arg14 harg14 x0 x1 x2 x3 x4 x5).2.2.2.1 = rowPieces (state (via arg1 harg1 x0) (via arg3 harg3 x2) (via arg4 harg4 x3) (via arg5 harg5 x4) (via arg6 harg6 x5)) := by
  sl_kernel_rfl

theorem out2_A_9_eq : out2_A_9 (F := Ideal) c i arg1 harg1 arg2 harg2 arg3 harg3 arg4 harg4 arg5 harg5 arg6 harg6 arg11 harg11 arg12 harg12 arg13 harg13 arg14 harg14 x0 x1 x2 x3 x4 x5 = View.canon (rowPieces (state (of x0) (of x2) (of x3) (of x4) (of x5))) := by
  unfold out2_A_9
  rw [View.read_writes_junk_eq_canon, pieces2_9]
  simp only [via_eq]

end Cert.KernelIdeal.Block
-- ==== Proof.Region2.lean ====
/- The arrays the third call leaves: its quarter of the rows is new, the others are kept. -/
module

public import proofs.«01_k».proof.Proof.Block2
public import proofs.«01_k».proof.Proof.Arrays
public import Idealize.ShloMosaic.Lib.Pipeline.ValueKit

@[expose] public section

noncomputable section

namespace Cert.KernelIdeal.Arrays

open Idealize.ShloMosaic Idealize.ShloMosaic.TcCoe Idealize.ShloMosaic.Tactic
open Idealize.SL Idealize.SL.Sem Cert.KernelIdeal.Gen Cert.KernelIdeal.Group Cert.KernelIdeal.Block

theorem at2_0 : ∀ t : Fin cfg2.N, win2_0.index t = ![0, t.val, 0] := (by decide +kernel : ∀ t : Fin grid2.N, _)
theorem at2_1 : ∀ t : Fin cfg2.N, win2_1.index t = ![0, 192 + t.val] := (by decide +kernel : ∀ t : Fin grid2.N, _)
theorem at2_2 : ∀ t : Fin cfg2.N, win2_2.index t = ![0, 192 + t.val] := (by decide +kernel : ∀ t : Fin grid2.N, _)
theorem at2_3 : ∀ t : Fin cfg2.N, win2_3.index t = ![192 + t.val, 0] := (by decide +kernel : ∀ t : Fin grid2.N, _)
theorem at2_4 : ∀ t : Fin cfg2.N, win2_4.index t = ![192 + t.val, 0] := (by decide +kernel : ∀ t : Fin grid2.N, _)
theorem at2_5 : ∀ t : Fin cfg2.N, win2_5.index t = ![192 + t.val, 0] := (by decide +kernel : ∀ t : Fin grid2.N, _)
theorem at2_6 : ∀ t : Fin cfg2.N, win2_6.index t = ![0, 192 + t.val] := (by decide +kernel : ∀ t : Fin grid2.N, _)
theorem at2_7 : ∀ t : Fin cfg2.N, win2_7.index t = ![192 + t.val, 0] := (by decide +kernel : ∀ t : Fin grid2.N, _)
theorem at2_8 : ∀ t : Fin cfg2.N, win2_8.index t = ![192 + t.val, 0] := (by decide +kernel : ∀ t : Fin grid2.N, _)
theorem at2_9 : ∀ t : Fin cfg2.N, win2_9.index t = ![192 + t.val, 0] := (by decide +kernel : ∀ t : Fin grid2.N, _)

variable (V : (c : Dev nD) → (b : Ref sig .tc) → Buf (Elt Ideal) ((c : Thread nD τ).loc b))

set_option maxHeartbeats 2000000 in
theorem blocks2 (c : Dev nD) (t : Fin cfg2.N) (ht : 192 + t.val < 384) :
    Blocks (V c main_v13) (V c main_v12) (V c main_arg5) (V c main_v14) (V c main_v15) (V c main_v16)
      (iblk2 V c 0 t) (iblk2 V c 1 t) (iblk2 V c 2 t) (iblk2 V c 3 t) (iblk2 V c 4 t) (iblk2 V c 5 t) ⟨192 + t.val, ht⟩ := by
  have hb : t.val < 96 := t.isLt
  have hm : (192 + t.val) % 96 = t.val := by omega
  constructor
  · intro d g l
    unfold iblk2
    blk_simp
    simp only [hm]
    blk_ext [at2_0 t]
  · intro d e
    unfold iblk2
    blk_simp
    blk_ext [at2_1 t]
  · intro d e
    unfold iblk2
    blk_simp
    blk_ext [at2_2 t]
  · intro d e
    unfold iblk2
    blk_simp
    blk_ext [at2_3 t]
  · intro d e
    unfold iblk2
    blk_simp
    blk_ext [at2_4 t]
  · intro d e
    unfold iblk2
    blk_simp
    blk_ext [at2_5 t]

theorem outs2_7 (c : Dev nD) (t : Fin cfg2.N) : (outsAt2 V c t).2.1 = View.canon (rowPieces (qs (of (iblk2 V c 0 t)) (of (iblk2 V c 2 t)) (of (iblk2 V c 3 t)) (of (iblk2 V c 4 t)) (of (iblk2 V c 5 t)))) :=
  out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t)

theorem scale2 (c : Dev nD) :
    (dat2 V c).arrAt 7 cfg2.N = fun i => if (i 0 : Nat) / 8 / 96 = 2
      then scaleA (V c main_v13) (V c main_arg5) (V c main_v14) (V c main_v15) (V c main_v16) i else V c main_v17_1 i := by
  refine (dat2 V c).arrAt_eq_of_coversWhere 7 _ (fun β => β (0 : Fin _) / 96 = 2) (by decide +kernel) (fun t hf y => ?_) (fun j => Iff.rfl)
  have hb : t.val < 96 := t.isLt
  have ht : 192 + t.val < 384 := by omega
  blk_simp
  rw [after2_7]
  obtain ⟨g, l, rfl⟩ : ∃ (g : Fin 8) (l : Fin 128), y = ix2 g l := ⟨y 0, y 1, by blk_ext⟩
  refine (congrFun (outs2_7 V c t) _).trans ((scale_block (blocks2 V c t ht) g l).trans (congrArg _ ?_))
  blk_ext [at2_7 t]

theorem outs2_8 (c : Dev nD) (t : Fin cfg2.N) : (outsAt2 V c t).2.2.1 = View.canon (rowPieces (mn (of (iblk2 V c 0 t)) (of (iblk2 V c 2 t)) (of (iblk2 V c 3 t)) (of (iblk2 V c 4 t)) (of (iblk2 V c 5 t)))) :=
  out2_A_8_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t)

theorem least2 (c : Dev nD) :
    (dat2 V c).arrAt 8 cfg2.N = fun i => if (i 0 : Nat) / 8 / 96 = 2
      then leastA (V c main_v13) (V c main_arg5) (V c main_v14) (V c main_v15) (V c main_v16) i else V c main_v17_2 i := by
  refine (dat2 V c).arrAt_eq_of_coversWhere 8 _ (fun β => β (0 : Fin _) / 96 = 2) (by decide +kernel) (fun t hf y => ?_) (fun j => Iff.rfl)
  have hb : t.val < 96 := t.isLt
  have ht : 192 + t.val < 384 := by omega
  blk_simp
  rw [after2_8]
  obtain ⟨g, l, rfl⟩ : ∃ (g : Fin 8) (l : Fin 128), y = ix2 g l := ⟨y 0, y 1, by blk_ext⟩
  refine (congrFun (outs2_8 V c t) _).trans ((least_block (blocks2 V c t ht) g l).trans (congrArg _ ?_))
  blk_ext [at2_8 t]

theorem outs2_9 (c : Dev nD) (t : Fin cfg2.N) : (outsAt2 V c t).2.2.2 = View.canon (rowPieces (state (of (iblk2 V c 0 t)) (of (iblk2 V c 2 t)) (of (iblk2 V c 3 t)) (of (iblk2 V c 4 t)) (of (iblk2 V c 5 t)))) :=
  out2_A_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t)

theorem state2 (c : Dev nD) :
    (dat2 V c).arrAt 9 cfg2.N = fun i => if (i 0 : Nat) / 8 / 96 = 2
      then stateA (V c main_v13) (V c main_arg5) (V c main_v14) (V c main_v15) (V c main_v16) i else V c main_v17_3 i := by
  refine (dat2 V c).arrAt_eq_of_coversWhere 9 _ (fun β => β (0 : Fin _) / 96 = 2) (by decide +kernel) (fun t hf y => ?_) (fun j => Iff.rfl)
  have hb : t.val < 96 := t.isLt
  have ht : 192 + t.val < 384 := by omega
  blk_simp
  rw [after2_9]
  obtain ⟨g, l, rfl⟩ : ∃ (g : Fin 8) (l : Fin 128), y = ix2 g l := ⟨y 0, y 1, by blk_ext⟩
  refine (congrFun (outs2_9 V c t) _).trans ((state_block (blocks2 V c t ht) g l).trans (congrArg _ ?_))
  blk_ext [at2_9 t]

theorem outs2_6 (c : Dev nD) (t : Fin cfg2.N) : (outsAt2 V c t).1 = View.canon (codePieces (qBytes (of (iblk2 V c 0 t)) (of (iblk2 V c 1 t)) (of (iblk2 V c 2 t)) (of (iblk2 V c 3 t)) (of (iblk2 V c 4 t)) (of (iblk2 V c 5 t)))) :=
  out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t)

theorem code2 (c : Dev nD) :
    (dat2 V c).arrAt 6 cfg2.N = fun i => if (i 1 : Nat) / 1024 / 96 = 2
      then codeA (V c main_v13) (V c main_v12) (V c main_arg5) (V c main_v14) (V c main_v15) (V c main_v16) i else V c main_v17_0 i := by
  refine (dat2 V c).arrAt_eq_of_coversWhere 6 _ (fun β => β (1 : Fin _) / 96 = 2) (by decide +kernel) (fun t hf y => ?_) (fun j => Iff.rfl)
  have hb : t.val < 96 := t.isLt
  have ht : 192 + t.val < 384 := by omega
  blk_simp
  rw [after2_6]
  obtain ⟨d, e, rfl⟩ : ∃ (d : Fin 192) (e : Fin 1024), y = ix2 d e := ⟨y 0, y 1, by blk_ext⟩
  refine (congrFun (outs2_6 V c t) _).trans ((code_block (blocks2 V c t ht) d e).trans (congrArg _ ?_))
  blk_ext [at2_6 t]

end Cert.KernelIdeal.Arrays
-- ==== Proof.Block3.lean ====
/- What the body of call 3 leaves in its four output blocks: the eight groups' stores. -/
module

public import proofs.«01_k».proof.Proof.Via
public import proofs.«01_k».proof.Proof.Gen.KernelIdeal.Frame.Region3

@[expose] public section

noncomputable section

namespace Cert.KernelIdeal.Block

open Idealize.ShloMosaic Idealize.ShloMosaic.TcCoe Idealize.ShloMosaic.Tactic
open Idealize.SL Idealize.SL.Sem Cert.KernelIdeal.Gen Cert.KernelIdeal.Group

variable (c : Dev nD) (i : grid3.Coords) (arg1 : Memref sig .tc .vmem S192x8x128 .f32) (harg1 : arg1.IsWhole) (arg2 : Memref sig .tc .vmem S192x1024 .i32) (harg2 : arg2.IsWhole)
  (arg3 : Memref sig .tc .vmem S48x1024 .i32) (harg3 : arg3.IsWhole) (arg4 : Memref sig .tc .vmem S8x128 .f32) (harg4 : arg4.IsWhole)
  (arg5 : Memref sig .tc .vmem S8x128 .f32) (harg5 : arg5.IsWhole) (arg6 : Memref sig .tc .vmem S8x128 .f32) (harg6 : arg6.IsWhole)
  (arg11 : Memref sig .tc .vmem S192x1024 .i8) (harg11 : arg11.IsWhole) (arg12 : Memref sig .tc .vmem S8x128 .f32) (harg12 : arg12.IsWhole)
  (arg13 : Memref sig .tc .vmem S8x128 .f32) (harg13 : arg13.IsWhole) (arg14 : Memref sig .tc .vmem S8x128 .f32) (harg14 : arg14.IsWhole)
  (x0 : Vec Ideal S192x8x128 .f32) (x1 : Vec Ideal S192x1024 .i32) (x2 : Vec Ideal S48x1024 .i32)
  (x3 x4 x5 : Vec Ideal S8x128 .f32)

set_option maxRecDepth 100000 in
theorem pieces3_6 : (kernelRun3_A (F := Ideal) c i arg1 harg1 arg2 harg2 arg3 harg3 arg4 harg4 arg5 harg5 arg6 harg6 arg11 harg11 arg12 harg12 arg13 harg13 arg14 harg14 x0 x1 x2 x3 x4 x5).1 = codePieces (qBytes (via arg1 harg1 x0) (via arg2 harg2 x1) (via arg3 harg3 x2) (via arg4 harg4 x3) (via arg5 harg5 x4) (via arg6 harg6 x5)) := by
  sl_kernel_rfl

theorem out3_A_6_eq : out3_A_6 (F := Ideal) c i arg1 harg1 arg2 harg2 arg3 harg3 arg4 harg4 arg5 harg5 arg6 harg6 arg11 harg11 arg12 harg12 arg13 harg13 arg14 harg14 x0 x1 x2 x3 x4 x5 = View.canon (codePieces (qBytes (of x0) (of x1) (of x2) (of x3) (of x4) (of x5))) := by
  unfold out3_A_6
  rw [View.read_writes_junk_eq_canon, pieces3_6]
  simp only [via_eq]

set_option maxRecDepth 100000 in
theorem pieces3_7 : (kernelRun3_A (F := Ideal) c i arg1 harg1 arg2 harg2 arg3 harg3 arg4 harg4 arg5 harg5 arg6 harg6 arg11 harg11 arg12 harg12 arg13 harg13 arg14 harg14 x0 x1 x2 x3 x4 x5).2.1 = rowPieces (qs (via arg1 harg1 x0) (via arg3 harg3 x2) (via arg4 harg4 x3) (via arg5 harg5 x4) (via arg6 harg6 x5)) := by
  sl_kernel_rfl

theorem out3_A_7_eq : out3_A_7 (F := Ideal) c i arg1 harg1 arg2 harg2 arg3 harg3 arg4 harg4 arg5 harg5 arg6 harg6 arg11 harg11 arg12 harg12 arg13 harg13 arg14 harg14 x0 x1 x2 x3 x4 x5 = View.canon (rowPieces (qs (of x0) (of x2) (of x3) (of x4) (of x5))) := by
  unfold out3_A_7
  rw [View.read_writes_junk_eq_canon, pieces3_7]
  simp only [via_eq]

set_option maxRecDepth 100000 in
theorem pieces3_8 : (kernelRun3_A (F := Ideal) c i arg1 harg1 arg2 harg2 arg3 harg3 arg4 harg4 arg5 harg5 arg6 harg6 arg11 harg11 arg12 harg12 arg13 harg13 arg14 harg14 x0 x1 x2 x3 x4 x5).2.2.1 = rowPieces (mn (via arg1 harg1 x0) (via arg3 harg3 x2) (via arg4 harg4 x3) (via arg5 harg5 x4) (via arg6 harg6 x5)) := by
  sl_kernel_rfl

theorem out3_A_8_eq : out3_A_8 (F := Ideal) c i arg1 harg1 arg2 harg2 arg3 harg3 arg4 harg4 arg5 harg5 arg6 harg6 arg11 harg11 arg12 harg12 arg13 harg13 arg14 harg14 x0 x1 x2 x3 x4 x5 = View.canon (rowPieces (mn (of x0) (of x2) (of x3) (of x4) (of x5))) := by
  unfold out3_A_8
  rw [View.read_writes_junk_eq_canon, pieces3_8]
  simp only [via_eq]

set_option maxRecDepth 100000 in
theorem pieces3_9 : (kernelRun3_A (F := Ideal) c i arg1 harg1 arg2 harg2 arg3 harg3 arg4 harg4 arg5 harg5 arg6 harg6 arg11 harg11 arg12 harg12 arg13 harg13 arg14 harg14 x0 x1 x2 x3 x4 x5).2.2.2.1 = rowPieces (state (via arg1 harg1 x0) (via arg3 harg3 x2) (via arg4 harg4 x3) (via arg5 harg5 x4) (via arg6 harg6 x5)) := by
  sl_kernel_rfl

theorem out3_A_9_eq : out3_A_9 (F := Ideal) c i arg1 harg1 arg2 harg2 arg3 harg3 arg4 harg4 arg5 harg5 arg6 harg6 arg11 harg11 arg12 harg12 arg13 harg13 arg14 harg14 x0 x1 x2 x3 x4 x5 = View.canon (rowPieces (state (of x0) (of x2) (of x3) (of x4) (of x5))) := by
  unfold out3_A_9
  rw [View.read_writes_junk_eq_canon, pieces3_9]
  simp only [via_eq]

end Cert.KernelIdeal.Block
-- ==== Proof.Region3.lean ====
/- The arrays the fourth call leaves: its quarter of the rows is new, the others are kept. -/
module

public import proofs.«01_k».proof.Proof.Block3
public import proofs.«01_k».proof.Proof.Arrays
public import Idealize.ShloMosaic.Lib.Pipeline.ValueKit

@[expose] public section

noncomputable section

namespace Cert.KernelIdeal.Arrays

open Idealize.ShloMosaic Idealize.ShloMosaic.TcCoe Idealize.ShloMosaic.Tactic
open Idealize.SL Idealize.SL.Sem Cert.KernelIdeal.Gen Cert.KernelIdeal.Group Cert.KernelIdeal.Block

theorem at3_0 : ∀ t : Fin cfg3.N, win3_0.index t = ![0, t.val, 0] := (by decide +kernel : ∀ t : Fin grid3.N, _)
theorem at3_1 : ∀ t : Fin cfg3.N, win3_1.index t = ![0, 288 + t.val] := (by decide +kernel : ∀ t : Fin grid3.N, _)
theorem at3_2 : ∀ t : Fin cfg3.N, win3_2.index t = ![0, 288 + t.val] := (by decide +kernel : ∀ t : Fin grid3.N, _)
theorem at3_3 : ∀ t : Fin cfg3.N, win3_3.index t = ![288 + t.val, 0] := (by decide +kernel : ∀ t : Fin grid3.N, _)
theorem at3_4 : ∀ t : Fin cfg3.N, win3_4.index t = ![288 + t.val, 0] := (by decide +kernel : ∀ t : Fin grid3.N, _)
theorem at3_5 : ∀ t : Fin cfg3.N, win3_5.index t = ![288 + t.val, 0] := (by decide +kernel : ∀ t : Fin grid3.N, _)
theorem at3_6 : ∀ t : Fin cfg3.N, win3_6.index t = ![0, 288 + t.val] := (by decide +kernel : ∀ t : Fin grid3.N, _)
theorem at3_7 : ∀ t : Fin cfg3.N, win3_7.index t = ![288 + t.val, 0] := (by decide +kernel : ∀ t : Fin grid3.N, _)
theorem at3_8 : ∀ t : Fin cfg3.N, win3_8.index t = ![288 + t.val, 0] := (by decide +kernel : ∀ t : Fin grid3.N, _)
theorem at3_9 : ∀ t : Fin cfg3.N, win3_9.index t = ![288 + t.val, 0] := (by decide +kernel : ∀ t : Fin grid3.N, _)

variable (V : (c : Dev nD) → (b : Ref sig .tc) → Buf (Elt Ideal) ((c : Thread nD τ).loc b))

set_option maxHeartbeats 2000000 in
theorem blocks3 (c : Dev nD) (t : Fin cfg3.N) (ht : 288 + t.val < 384) :
    Blocks (V c main_v19) (V c main_v18) (V c main_arg5) (V c main_v20) (V c main_v21) (V c main_v22)
      (iblk3 V c 0 t) (iblk3 V c 1 t) (iblk3 V c 2 t) (iblk3 V c 3 t) (iblk3 V c 4 t) (iblk3 V c 5 t) ⟨288 + t.val, ht⟩ := by
  have hb : t.val < 96 := t.isLt
  have hm : (288 + t.val) % 96 = t.val := by omega
  constructor
  · intro d g l
    unfold iblk3
    blk_simp
    simp only [hm]
    blk_ext [at3_0 t]
  · intro d e
    unfold iblk3
    blk_simp
    blk_ext [at3_1 t]
  · intro d e
    unfold iblk3
    blk_simp
    blk_ext [at3_2 t]
  · intro d e
    unfold iblk3
    blk_simp
    blk_ext [at3_3 t]
  · intro d e
    unfold iblk3
    blk_simp
    blk_ext [at3_4 t]
  · intro d e
    unfold iblk3
    blk_simp
    blk_ext [at3_5 t]

theorem outs3_7 (c : Dev nD) (t : Fin cfg3.N) : (outsAt3 V c t).2.1 = View.canon (rowPieces (qs (of (iblk3 V c 0 t)) (of (iblk3 V c 2 t)) (of (iblk3 V c 3 t)) (of (iblk3 V c 4 t)) (of (iblk3 V c 5 t)))) :=
  out3_A_7_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t)

theorem scale3 (c : Dev nD) :
    (dat3 V c).arrAt 7 cfg3.N = fun i => if (i 0 : Nat) / 8 / 96 = 3
      then scaleA (V c main_v19) (V c main_arg5) (V c main_v20) (V c main_v21) (V c main_v22) i else V c main_v23_1 i := by
  refine (dat3 V c).arrAt_eq_of_coversWhere 7 _ (fun β => β (0 : Fin _) / 96 = 3) (by decide +kernel) (fun t hf y => ?_) (fun j => Iff.rfl)
  have hb : t.val < 96 := t.isLt
  have ht : 288 + t.val < 384 := by omega
  blk_simp
  rw [after3_7]
  obtain ⟨g, l, rfl⟩ : ∃ (g : Fin 8) (l : Fin 128), y = ix2 g l := ⟨y 0, y 1, by blk_ext⟩
  refine (congrFun (outs3_7 V c t) _).trans ((scale_block (blocks3 V c t ht) g l).trans (congrArg _ ?_))
  blk_ext [at3_7 t]

theorem outs3_8 (c : Dev nD) (t : Fin cfg3.N) : (outsAt3 V c t).2.2.1 = View.canon (rowPieces (mn (of (iblk3 V c 0 t)) (of (iblk3 V c 2 t)) (of (iblk3 V c 3 t)) (of (iblk3 V c 4 t)) (of (iblk3 V c 5 t)))) :=
  out3_A_8_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t)

theorem least3 (c : Dev nD) :
    (dat3 V c).arrAt 8 cfg3.N = fun i => if (i 0 : Nat) / 8 / 96 = 3
      then leastA (V c main_v19) (V c main_arg5) (V c main_v20) (V c main_v21) (V c main_v22) i else V c main_v23_2 i := by
  refine (dat3 V c).arrAt_eq_of_coversWhere 8 _ (fun β => β (0 : Fin _) / 96 = 3) (by decide +kernel) (fun t hf y => ?_) (fun j => Iff.rfl)
  have hb : t.val < 96 := t.isLt
  have ht : 288 + t.val < 384 := by omega
  blk_simp
  rw [after3_8]
  obtain ⟨g, l, rfl⟩ : ∃ (g : Fin 8) (l : Fin 128), y = ix2 g l := ⟨y 0, y 1, by blk_ext⟩
  refine (congrFun (outs3_8 V c t) _).trans ((least_block (blocks3 V c t ht) g l).trans (congrArg _ ?_))
  blk_ext [at3_8 t]

theorem outs3_9 (c : Dev nD) (t : Fin cfg3.N) : (outsAt3 V c t).2.2.2 = View.canon (rowPieces (state (of (iblk3 V c 0 t)) (of (iblk3 V c 2 t)) (of (iblk3 V c 3 t)) (of (iblk3 V c 4 t)) (of (iblk3 V c 5 t)))) :=
  out3_A_9_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t)

theorem state3 (c : Dev nD) :
    (dat3 V c).arrAt 9 cfg3.N = fun i => if (i 0 : Nat) / 8 / 96 = 3
      then stateA (V c main_v19) (V c main_arg5) (V c main_v20) (V c main_v21) (V c main_v22) i else V c main_v23_3 i := by
  refine (dat3 V c).arrAt_eq_of_coversWhere 9 _ (fun β => β (0 : Fin _) / 96 = 3) (by decide +kernel) (fun t hf y => ?_) (fun j => Iff.rfl)
  have hb : t.val < 96 := t.isLt
  have ht : 288 + t.val < 384 := by omega
  blk_simp
  rw [after3_9]
  obtain ⟨g, l, rfl⟩ : ∃ (g : Fin 8) (l : Fin 128), y = ix2 g l := ⟨y 0, y 1, by blk_ext⟩
  refine (congrFun (outs3_9 V c t) _).trans ((state_block (blocks3 V c t ht) g l).trans (congrArg _ ?_))
  blk_ext [at3_9 t]

theorem outs3_6 (c : Dev nD) (t : Fin cfg3.N) : (outsAt3 V c t).1 = View.canon (codePieces (qBytes (of (iblk3 V c 0 t)) (of (iblk3 V c 1 t)) (of (iblk3 V c 2 t)) (of (iblk3 V c 3 t)) (of (iblk3 V c 4 t)) (of (iblk3 V c 5 t)))) :=
  out3_A_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (iblk3 V c 0 t) (iblk3 V c 1 t) (iblk3 V c 2 t) (iblk3 V c 3 t) (iblk3 V c 4 t) (iblk3 V c 5 t)

theorem code3 (c : Dev nD) :
    (dat3 V c).arrAt 6 cfg3.N = fun i => if (i 1 : Nat) / 1024 / 96 = 3
      then codeA (V c main_v19) (V c main_v18) (V c main_arg5) (V c main_v20) (V c main_v21) (V c main_v22) i else V c main_v23_0 i := by
  refine (dat3 V c).arrAt_eq_of_coversWhere 6 _ (fun β => β (1 : Fin _) / 96 = 3) (by decide +kernel) (fun t hf y => ?_) (fun j => Iff.rfl)
  have hb : t.val < 96 := t.isLt
  have ht : 288 + t.val < 384 := by omega
  blk_simp
  rw [after3_6]
  obtain ⟨d, e, rfl⟩ : ∃ (d : Fin 192) (e : Fin 1024), y = ix2 d e := ⟨y 0, y 1, by blk_ext⟩
  refine (congrFun (outs3_6 V c t) _).trans ((code_block (blocks3 V c t ht) d e).trans (congrArg _ ?_))
  blk_ext [at3_6 t]

end Cert.KernelIdeal.Arrays
-- ==== Proof.Quarter.lean ====
/- The rows of the four quarters: what the calls leave at a row is what the reference computes for it. -/
module

public import proofs.«01_k».proof.Proof.Arrays
public import proofs.«01_k».proof.Proof.Ref
public import Idealize.ShloMosaic.Lib.Pipeline.ValueKit

@[expose] public section

noncomputable section

namespace Cert.KernelIdeal.Arrays

open Idealize.ShloMosaic Idealize.ShloMosaic.Tactic Idealize.SL.Sem Cert.KernelIdeal.Gen
open Cert.ReferenceIdeal.Steps (gN cN rN)

/-- A quarter's gradient sums, as the calls read them. -/
abbrev sumsOf (a : Vec Ideal S18874368 .f32) : Vec Ideal S192x768x128 .f32 := shapeCast S192x768x128 a shapeCasts_S18874368_S192x768x128

/-- One number per row, as the calls read it. -/
abbrev rowsOf (a : Vec Ideal S393216 .f32) : Vec Ideal S3072x128 .f32 := shapeCast S3072x128 a shapeCasts_S393216_S3072x128

/-- The noise, as the calls read it. -/
abbrev noiseOf (a : Vec Ideal S393216x192 .i32) : Vec Ideal S192x393216 .i32 := transpose S192x393216 [1, 0] a transposes_S393216x192_S192x393216_1_0

variable (a0 a1 a2 a3 : Vec Ideal S18874368 .f32) (a4 : Vec Ideal S393216x192 .i32) (a5 : Vec Ideal S48x393216 .i32)
  (a6 a7 a8 : Vec Ideal S393216 .f32)

/-- The gradient sums of a row from one quarter's list. -/
def gQ (a : Vec Ideal S18874368 .f32) (n : Fin 393216) (d : Fin 192) : Ideal .f32 := a (ix1 ⟨d.val * 98304 + n.val % 98304, by omega⟩)

theorem gA_sumsOf (a : Vec Ideal S18874368 .f32) (n : Fin 393216) : gA (sumsOf a) n = gQ a n := by
  funext d
  unfold gA gQ sumsOf
  pointwise
  refine congrArg a ?_
  blk_ext

theorem sA_rowsOf (a : Vec Ideal S393216 .f32) (n : Fin 393216) : sA (rowsOf a) n = a (ix1 n) := by
  unfold sA rowsOf
  pointwise

theorem rA_noiseOf (a : Vec Ideal S393216x192 .i32) (n : Fin 393216) : rA (noiseOf a) n = rN a n := by
  funext d
  unfold rA noiseOf rN
  pointwise

theorem cA_eq (n : Fin 393216) : cA a5 n = cN a5 n := rfl

/-- Where a row's number lies. -/
def cellOf (n : Fin 393216) : S3072x128.Idx := ix2 ⟨n.val / 128, by omega⟩ ⟨n.val % 128, by omega⟩

theorem rowAt_cellOf (n : Fin 393216) : rowAt (cellOf n 0) (cellOf n 1) = n :=
  Fin.ext (by
    show 128 * (n.val / 128) + n.val % 128 = n.val
    omega)

theorem scaleA_at (a : Vec Ideal S18874368 .f32) (n : Fin 393216) :
    scaleA (sumsOf a) a5 (rowsOf a6) (rowsOf a7) (rowsOf a8) (cellOf n) = Row.scale (gQ a n) (cN a5 n) (a6 (ix1 n)) (a7 (ix1 n)) (a8 (ix1 n)) := by
  unfold scaleA
  rw [rowAt_cellOf, gA_sumsOf, sA_rowsOf, sA_rowsOf, sA_rowsOf, cA_eq]

theorem leastA_at (a : Vec Ideal S18874368 .f32) (n : Fin 393216) :
    leastA (sumsOf a) a5 (rowsOf a6) (rowsOf a7) (rowsOf a8) (cellOf n) = Row.least (gQ a n) (cN a5 n) (a6 (ix1 n)) (a7 (ix1 n)) (a8 (ix1 n)) := by
  unfold leastA
  rw [rowAt_cellOf, gA_sumsOf, sA_rowsOf, sA_rowsOf, sA_rowsOf, cA_eq]

theorem stateA_at (a : Vec Ideal S18874368 .f32) (n : Fin 393216) :
    stateA (sumsOf a) a5 (rowsOf a6) (rowsOf a7) (rowsOf a8) (cellOf n) = Row.state (gQ a n) (cN a5 n) (a6 (ix1 n)) (a7 (ix1 n)) (a8 (ix1 n)) := by
  unfold stateA
  rw [rowAt_cellOf, gA_sumsOf, sA_rowsOf, sA_rowsOf, sA_rowsOf, cA_eq]

theorem codeA_at (a : Vec Ideal S18874368 .f32) (n : Fin 393216) (d : Fin 192) :
    codeA (sumsOf a) (noiseOf a4) a5 (rowsOf a6) (rowsOf a7) (rowsOf a8) (ix2 d n)
      = Row.code (gQ a n) (cN a5 n) (rN a4 n) (a6 (ix1 n)) (a7 (ix1 n)) (a8 (ix1 n)) d := by
  show Row.code (gA (sumsOf a) n) (cA a5 n) (rA (noiseOf a4) n) (sA (rowsOf a6) n) (sA (rowsOf a7) n) (sA (rowsOf a8) n) d = _
  rw [gA_sumsOf, sA_rowsOf, sA_rowsOf, sA_rowsOf, rA_noiseOf, cA_eq]

/-- A value per quarter, the quarter of the row picked out. -/
theorem pick {α : Type} (F : (Fin 192 → Ideal .f32) → α) (n : Fin 393216) (q : Nat) (hq : q = n.val / 98304) (j : α) :
    (if q = 3 then F (gQ a3 n) else if q = 2 then F (gQ a2 n) else if q = 1 then F (gQ a1 n) else if q = 0 then F (gQ a0 n) else j)
      = F (gN a0 a1 a2 a3 n) := by
  have hn : n.val < 393216 := n.isLt
  have e : gN a0 a1 a2 a3 n = if q = 3 then gQ a3 n else if q = 2 then gQ a2 n else if q = 1 then gQ a1 n else gQ a0 n := by
    funext d
    unfold gN
    by_cases h0 : n.val < 98304
    · rw [if_pos h0, if_neg (by omega), if_neg (by omega), if_neg (by omega)]
      rfl
    by_cases h1 : n.val < 196608
    · rw [if_neg h0, if_pos h1, if_neg (by omega), if_neg (by omega), if_pos (by omega)]
      rfl
    by_cases h2 : n.val < 294912
    · rw [if_neg h0, if_neg h1, if_pos h2, if_neg (by omega), if_pos (by omega)]
      rfl
    · rw [if_neg h0, if_neg h1, if_neg h2, if_pos (by omega)]
      rfl
  rw [e]
  by_cases h3 : q = 3
  · simp only [if_pos h3]
  by_cases h2 : q = 2
  · simp only [if_neg h3, if_pos h2]
  by_cases h1 : q = 1
  · simp only [if_neg h3, if_neg h2, if_pos h1]
  · rw [if_neg h3, if_neg h2, if_neg h1, if_neg h3, if_neg h2, if_neg h1, if_pos (by omega)]

end Cert.KernelIdeal.Arrays
-- ==== Proof.Chain.lean ====
/- The four calls one after the other: what the arrays hold when the last has ended. -/
module

public import proofs.«01_k».proof.Proof.Region0
public import proofs.«01_k».proof.Proof.Region1
public import proofs.«01_k».proof.Proof.Region2
public import proofs.«01_k».proof.Proof.Region3
public import proofs.«01_k».proof.Proof.Quarter
public import proofs.«01_k».proof.Proof.Gen.KernelIdeal.Frame.Fold0

@[expose] public section

noncomputable section

namespace Cert.KernelIdeal.Arrays

open Idealize.ShloMosaic Idealize.ShloMosaic.TcCoe Idealize.ShloMosaic.Tactic Idealize.ShloMosaic.StableHlo
open Idealize.SL Idealize.SL.Sem Cert.KernelIdeal.Gen Cert.KernelIdeal.Group Cert.KernelIdeal.Block

variable (m : (ℓ : Loc nD τ sig) → Buf (Elt Ideal) ℓ) (ρ : Dev nD → PrngReg) (c : Dev nD)

theorem entry_v1 : V1 m ρ c main_v1 = sumsOf (m ((c : Thread nD τ).loc main_arg0)) := by
  rw [← W0_args m ρ c main_arg0 (by decide)]
  show StableHlo.after hostOps0 _ _ = _
  after_results
  all_goals rfl

theorem entry_v0 : V1 m ρ c main_v0 = noiseOf (m ((c : Thread nD τ).loc main_arg4)) := by
  rw [← W0_args m ρ c main_arg4 (by decide)]
  show StableHlo.after hostOps0 _ _ = _
  after_results
  all_goals rfl

theorem entry_v2 : V1 m ρ c main_v2 = rowsOf (m ((c : Thread nD τ).loc main_arg6)) := by
  rw [← W0_args m ρ c main_arg6 (by decide)]
  show StableHlo.after hostOps0 _ _ = _
  after_results
  all_goals rfl

theorem entry_v3 : V1 m ρ c main_v3 = rowsOf (m ((c : Thread nD τ).loc main_arg7)) := by
  rw [← W0_args m ρ c main_arg7 (by decide)]
  show StableHlo.after hostOps0 _ _ = _
  after_results
  all_goals rfl

theorem entry_v4 : V1 m ρ c main_v4 = rowsOf (m ((c : Thread nD τ).loc main_arg8)) := by
  rw [← W0_args m ρ c main_arg8 (by decide)]
  show StableHlo.after hostOps0 _ _ = _
  after_results
  all_goals rfl

theorem entry0_arg5 : V1 m ρ c main_arg5 = m ((c : Thread nD τ).loc main_arg5) := W1_args m ρ c main_arg5 (by decide)

theorem exit0_code : W2 m ρ c (Proc.devRef .tc main_v5_0) = fun i => if (i 1 : Nat) / 1024 / 96 = 0
    then codeA (sumsOf (m ((c : Thread nD τ).loc main_arg0))) (noiseOf (m ((c : Thread nD τ).loc main_arg4))) (m ((c : Thread nD τ).loc main_arg5)) (rowsOf (m ((c : Thread nD τ).loc main_arg6))) (rowsOf (m ((c : Thread nD τ).loc main_arg7))) (rowsOf (m ((c : Thread nD τ).loc main_arg8))) i
    else V1 m ρ c main_v5_0 i := by
  refine (W2_arr m ρ c 6).trans ((code0 (V1 m ρ) c).trans ?_)
  rw [entry_v1, entry_v0, entry0_arg5, entry_v2, entry_v3, entry_v4]

theorem exit0_scale : W2 m ρ c (Proc.devRef .tc main_v5_1) = fun i => if (i 0 : Nat) / 8 / 96 = 0
    then scaleA (sumsOf (m ((c : Thread nD τ).loc main_arg0))) (m ((c : Thread nD τ).loc main_arg5)) (rowsOf (m ((c : Thread nD τ).loc main_arg6))) (rowsOf (m ((c : Thread nD τ).loc main_arg7))) (rowsOf (m ((c : Thread nD τ).loc main_arg8))) i
    else V1 m ρ c main_v5_1 i := by
  refine (W2_arr m ρ c 7).trans ((scale0 (V1 m ρ) c).trans ?_)
  rw [entry_v1, entry0_arg5, entry_v2, entry_v3, entry_v4]

theorem exit0_least : W2 m ρ c (Proc.devRef .tc main_v5_2) = fun i => if (i 0 : Nat) / 8 / 96 = 0
    then leastA (sumsOf (m ((c : Thread nD τ).loc main_arg0))) (m ((c : Thread nD τ).loc main_arg5)) (rowsOf (m ((c : Thread nD τ).loc main_arg6))) (rowsOf (m ((c : Thread nD τ).loc main_arg7))) (rowsOf (m ((c : Thread nD τ).loc main_arg8))) i
    else V1 m ρ c main_v5_2 i := by
  refine (W2_arr m ρ c 8).trans ((least0 (V1 m ρ) c).trans ?_)
  rw [entry_v1, entry0_arg5, entry_v2, entry_v3, entry_v4]

theorem exit0_state : W2 m ρ c (Proc.devRef .tc main_v5_3) = fun i => if (i 0 : Nat) / 8 / 96 = 0
    then stateA (sumsOf (m ((c : Thread nD τ).loc main_arg0))) (m ((c : Thread nD τ).loc main_arg5)) (rowsOf (m ((c : Thread nD τ).loc main_arg6))) (rowsOf (m ((c : Thread nD τ).loc main_arg7))) (rowsOf (m ((c : Thread nD τ).loc main_arg8))) i
    else V1 m ρ c main_v5_3 i := by
  refine (W2_arr m ρ c 9).trans ((state0 (V1 m ρ) c).trans ?_)
  rw [entry_v1, entry0_arg5, entry_v2, entry_v3, entry_v4]

theorem entry_v7 : V3 m ρ c main_v7 = sumsOf (m ((c : Thread nD τ).loc main_arg1)) := by
  rw [← W2_args m ρ c main_arg1 (by decide)]
  show StableHlo.after hostOps1 _ _ = _
  after_results
  all_goals rfl

theorem entry_v6 : V3 m ρ c main_v6 = noiseOf (m ((c : Thread nD τ).loc main_arg4)) := by
  rw [← W2_args m ρ c main_arg4 (by decide)]
  show StableHlo.after hostOps1 _ _ = _
  after_results
  all_goals rfl

theorem entry_v8 : V3 m ρ c main_v8 = rowsOf (m ((c : Thread nD τ).loc main_arg6)) := by
  rw [← W2_args m ρ c main_arg6 (by decide)]
  show StableHlo.after hostOps1 _ _ = _
  after_results
  all_goals rfl

theorem entry_v9 : V3 m ρ c main_v9 = rowsOf (m ((c : Thread nD τ).loc main_arg7)) := by
  rw [← W2_args m ρ c main_arg7 (by decide)]
  show StableHlo.after hostOps1 _ _ = _
  after_results
  all_goals rfl

theorem entry_v10 : V3 m ρ c main_v10 = rowsOf (m ((c : Thread nD τ).loc main_arg8)) := by
  rw [← W2_args m ρ c main_arg8 (by decide)]
  show StableHlo.after hostOps1 _ _ = _
  after_results
  all_goals rfl

theorem entry1_arg5 : V3 m ρ c main_arg5 = m ((c : Thread nD τ).loc main_arg5) := W3_args m ρ c main_arg5 (by decide)

theorem entry_v11_0 : V3 m ρ c main_v11_0 = W2 m ρ c (Proc.devRef .tc main_v5_0) := by
  show StableHlo.after hostOps1 _ _ = _
  after_results
  all_goals rfl

theorem entry_v11_1 : V3 m ρ c main_v11_1 = W2 m ρ c (Proc.devRef .tc main_v5_1) := by
  show StableHlo.after hostOps1 _ _ = _
  after_results
  all_goals rfl

theorem entry_v11_2 : V3 m ρ c main_v11_2 = W2 m ρ c (Proc.devRef .tc main_v5_2) := by
  show StableHlo.after hostOps1 _ _ = _
  after_results
  all_goals rfl

theorem entry_v11_3 : V3 m ρ c main_v11_3 = W2 m ρ c (Proc.devRef .tc main_v5_3) := by
  show StableHlo.after hostOps1 _ _ = _
  after_results
  all_goals rfl

theorem exit1_code : W4 m ρ c (Proc.devRef .tc main_v11_0) = fun i => if (i 1 : Nat) / 1024 / 96 = 1
    then codeA (sumsOf (m ((c : Thread nD τ).loc main_arg1))) (noiseOf (m ((c : Thread nD τ).loc main_arg4))) (m ((c : Thread nD τ).loc main_arg5)) (rowsOf (m ((c : Thread nD τ).loc main_arg6))) (rowsOf (m ((c : Thread nD τ).loc main_arg7))) (rowsOf (m ((c : Thread nD τ).loc main_arg8))) i
    else W2 m ρ c (Proc.devRef .tc main_v5_0) i := by
  refine (W4_arr m ρ c 6).trans ((code1 (V3 m ρ) c).trans ?_)
  rw [entry_v7, entry_v6, entry1_arg5, entry_v8, entry_v9, entry_v10, entry_v11_0]

theorem exit1_scale : W4 m ρ c (Proc.devRef .tc main_v11_1) = fun i => if (i 0 : Nat) / 8 / 96 = 1
    then scaleA (sumsOf (m ((c : Thread nD τ).loc main_arg1))) (m ((c : Thread nD τ).loc main_arg5)) (rowsOf (m ((c : Thread nD τ).loc main_arg6))) (rowsOf (m ((c : Thread nD τ).loc main_arg7))) (rowsOf (m ((c : Thread nD τ).loc main_arg8))) i
    else W2 m ρ c (Proc.devRef .tc main_v5_1) i := by
  refine (W4_arr m ρ c 7).trans ((scale1 (V3 m ρ) c).trans ?_)
  rw [entry_v7, entry1_arg5, entry_v8, entry_v9, entry_v10, entry_v11_1]

theorem exit1_least : W4 m ρ c (Proc.devRef .tc main_v11_2) = fun i => if (i 0 : Nat) / 8 / 96 = 1
    then leastA (sumsOf (m ((c : Thread nD τ).loc main_arg1))) (m ((c : Thread nD τ).loc main_arg5)) (rowsOf (m ((c : Thread nD τ).loc main_arg6))) (rowsOf (m ((c : Thread nD τ).loc main_arg7))) (rowsOf (m ((c : Thread nD τ).loc main_arg8))) i
    else W2 m ρ c (Proc.devRef .tc main_v5_2) i := by
  refine (W4_arr m ρ c 8).trans ((least1 (V3 m ρ) c).trans ?_)
  rw [entry_v7, entry1_arg5, entry_v8, entry_v9, entry_v10, entry_v11_2]

theorem exit1_state : W4 m ρ c (Proc.devRef .tc main_v11_3) = fun i => if (i 0 : Nat) / 8 / 96 = 1
    then stateA (sumsOf (m ((c : Thread nD τ).loc main_arg1))) (m ((c : Thread nD τ).loc main_arg5)) (rowsOf (m ((c : Thread nD τ).loc main_arg6))) (rowsOf (m ((c : Thread nD τ).loc main_arg7))) (rowsOf (m ((c : Thread nD τ).loc main_arg8))) i
    else W2 m ρ c (Proc.devRef .tc main_v5_3) i := by
  refine (W4_arr m ρ c 9).trans ((state1 (V3 m ρ) c).trans ?_)
  rw [entry_v7, entry1_arg5, entry_v8, entry_v9, entry_v10, entry_v11_3]

theorem entry_v13 : V5 m ρ c main_v13 = sumsOf (m ((c : Thread nD τ).loc main_arg2)) := by
  rw [← W4_args m ρ c main_arg2 (by decide)]
  show StableHlo.after hostOps2 _ _ = _
  after_results
  all_goals rfl

theorem entry_v12 : V5 m ρ c main_v12 = noiseOf (m ((c : Thread nD τ).loc main_arg4)) := by
  rw [← W4_args m ρ c main_arg4 (by decide)]
  show StableHlo.after hostOps2 _ _ = _
  after_results
  all_goals rfl

theorem entry_v14 : V5 m ρ c main_v14 = rowsOf (m ((c : Thread nD τ).loc main_arg6)) := by
  rw [← W4_args m ρ c main_arg6 (by decide)]
  show StableHlo.after hostOps2 _ _ = _
  after_results
  all_goals rfl

theorem entry_v15 : V5 m ρ c main_v15 = rowsOf (m ((c : Thread nD τ).loc main_arg7)) := by
  rw [← W4_args m ρ c main_arg7 (by decide)]
  show StableHlo.after hostOps2 _ _ = _
  after_results
  all_goals rfl

theorem entry_v16 : V5 m ρ c main_v16 = rowsOf (m ((c : Thread nD τ).loc main_arg8)) := by
  rw [← W4_args m ρ c main_arg8 (by decide)]
  show StableHlo.after hostOps2 _ _ = _
  after_results
  all_goals rfl

theorem entry2_arg5 : V5 m ρ c main_arg5 = m ((c : Thread nD τ).loc main_arg5) := W5_args m ρ c main_arg5 (by decide)

theorem entry_v17_0 : V5 m ρ c main_v17_0 = W4 m ρ c (Proc.devRef .tc main_v11_0) := by
  show StableHlo.after hostOps2 _ _ = _
  after_results
  all_goals rfl

theorem entry_v17_1 : V5 m ρ c main_v17_1 = W4 m ρ c (Proc.devRef .tc main_v11_1) := by
  show StableHlo.after hostOps2 _ _ = _
  after_results
  all_goals rfl

theorem entry_v17_2 : V5 m ρ c main_v17_2 = W4 m ρ c (Proc.devRef .tc main_v11_2) := by
  show StableHlo.after hostOps2 _ _ = _
  after_results
  all_goals rfl

theorem entry_v17_3 : V5 m ρ c main_v17_3 = W4 m ρ c (Proc.devRef .tc main_v11_3) := by
  show StableHlo.after hostOps2 _ _ = _
  after_results
  all_goals rfl

theorem exit2_code : W6 m ρ c (Proc.devRef .tc main_v17_0) = fun i => if (i 1 : Nat) / 1024 / 96 = 2
    then codeA (sumsOf (m ((c : Thread nD τ).loc main_arg2))) (noiseOf (m ((c : Thread nD τ).loc main_arg4))) (m ((c : Thread nD τ).loc main_arg5)) (rowsOf (m ((c : Thread nD τ).loc main_arg6))) (rowsOf (m ((c : Thread nD τ).loc main_arg7))) (rowsOf (m ((c : Thread nD τ).loc main_arg8))) i
    else W4 m ρ c (Proc.devRef .tc main_v11_0) i := by
  refine (W6_arr m ρ c 6).trans ((code2 (V5 m ρ) c).trans ?_)
  rw [entry_v13, entry_v12, entry2_arg5, entry_v14, entry_v15, entry_v16, entry_v17_0]

theorem exit2_scale : W6 m ρ c (Proc.devRef .tc main_v17_1) = fun i => if (i 0 : Nat) / 8 / 96 = 2
    then scaleA (sumsOf (m ((c : Thread nD τ).loc main_arg2))) (m ((c : Thread nD τ).loc main_arg5)) (rowsOf (m ((c : Thread nD τ).loc main_arg6))) (rowsOf (m ((c : Thread nD τ).loc main_arg7))) (rowsOf (m ((c : Thread nD τ).loc main_arg8))) i
    else W4 m ρ c (Proc.devRef .tc main_v11_1) i := by
  refine (W6_arr m ρ c 7).trans ((scale2 (V5 m ρ) c).trans ?_)
  rw [entry_v13, entry2_arg5, entry_v14, entry_v15, entry_v16, entry_v17_1]

theorem exit2_least : W6 m ρ c (Proc.devRef .tc main_v17_2) = fun i => if (i 0 : Nat) / 8 / 96 = 2
    then leastA (sumsOf (m ((c : Thread nD τ).loc main_arg2))) (m ((c : Thread nD τ).loc main_arg5)) (rowsOf (m ((c : Thread nD τ).loc main_arg6))) (rowsOf (m ((c : Thread nD τ).loc main_arg7))) (rowsOf (m ((c : Thread nD τ).loc main_arg8))) i
    else W4 m ρ c (Proc.devRef .tc main_v11_2) i := by
  refine (W6_arr m ρ c 8).trans ((least2 (V5 m ρ) c).trans ?_)
  rw [entry_v13, entry2_arg5, entry_v14, entry_v15, entry_v16, entry_v17_2]

theorem exit2_state : W6 m ρ c (Proc.devRef .tc main_v17_3) = fun i => if (i 0 : Nat) / 8 / 96 = 2
    then stateA (sumsOf (m ((c : Thread nD τ).loc main_arg2))) (m ((c : Thread nD τ).loc main_arg5)) (rowsOf (m ((c : Thread nD τ).loc main_arg6))) (rowsOf (m ((c : Thread nD τ).loc main_arg7))) (rowsOf (m ((c : Thread nD τ).loc main_arg8))) i
    else W4 m ρ c (Proc.devRef .tc main_v11_3) i := by
  refine (W6_arr m ρ c 9).trans ((state2 (V5 m ρ) c).trans ?_)
  rw [entry_v13, entry2_arg5, entry_v14, entry_v15, entry_v16, entry_v17_3]

theorem entry_v19 : V7 m ρ c main_v19 = sumsOf (m ((c : Thread nD τ).loc main_arg3)) := by
  rw [← W6_args m ρ c main_arg3 (by decide)]
  show StableHlo.after hostOps3 _ _ = _
  after_results
  all_goals rfl

theorem entry_v18 : V7 m ρ c main_v18 = noiseOf (m ((c : Thread nD τ).loc main_arg4)) := by
  rw [← W6_args m ρ c main_arg4 (by decide)]
  show StableHlo.after hostOps3 _ _ = _
  after_results
  all_goals rfl

theorem entry_v20 : V7 m ρ c main_v20 = rowsOf (m ((c : Thread nD τ).loc main_arg6)) := by
  rw [← W6_args m ρ c main_arg6 (by decide)]
  show StableHlo.after hostOps3 _ _ = _
  after_results
  all_goals rfl

theorem entry_v21 : V7 m ρ c main_v21 = rowsOf (m ((c : Thread nD τ).loc main_arg7)) := by
  rw [← W6_args m ρ c main_arg7 (by decide)]
  show StableHlo.after hostOps3 _ _ = _
  after_results
  all_goals rfl

theorem entry_v22 : V7 m ρ c main_v22 = rowsOf (m ((c : Thread nD τ).loc main_arg8)) := by
  rw [← W6_args m ρ c main_arg8 (by decide)]
  show StableHlo.after hostOps3 _ _ = _
  after_results
  all_goals rfl

theorem entry3_arg5 : V7 m ρ c main_arg5 = m ((c : Thread nD τ).loc main_arg5) := W7_args m ρ c main_arg5 (by decide)

theorem entry_v23_0 : V7 m ρ c main_v23_0 = W6 m ρ c (Proc.devRef .tc main_v17_0) := by
  show StableHlo.after hostOps3 _ _ = _
  after_results
  all_goals rfl

theorem entry_v23_1 : V7 m ρ c main_v23_1 = W6 m ρ c (Proc.devRef .tc main_v17_1) := by
  show StableHlo.after hostOps3 _ _ = _
  after_results
  all_goals rfl

theorem entry_v23_2 : V7 m ρ c main_v23_2 = W6 m ρ c (Proc.devRef .tc main_v17_2) := by
  show StableHlo.after hostOps3 _ _ = _
  after_results
  all_goals rfl

theorem entry_v23_3 : V7 m ρ c main_v23_3 = W6 m ρ c (Proc.devRef .tc main_v17_3) := by
  show StableHlo.after hostOps3 _ _ = _
  after_results
  all_goals rfl

theorem exit3_code : W8 m ρ c (Proc.devRef .tc main_v23_0) = fun i => if (i 1 : Nat) / 1024 / 96 = 3
    then codeA (sumsOf (m ((c : Thread nD τ).loc main_arg3))) (noiseOf (m ((c : Thread nD τ).loc main_arg4))) (m ((c : Thread nD τ).loc main_arg5)) (rowsOf (m ((c : Thread nD τ).loc main_arg6))) (rowsOf (m ((c : Thread nD τ).loc main_arg7))) (rowsOf (m ((c : Thread nD τ).loc main_arg8))) i
    else W6 m ρ c (Proc.devRef .tc main_v17_0) i := by
  refine (W8_arr m ρ c 6).trans ((code3 (V7 m ρ) c).trans ?_)
  rw [entry_v19, entry_v18, entry3_arg5, entry_v20, entry_v21, entry_v22, entry_v23_0]

theorem exit3_scale : W8 m ρ c (Proc.devRef .tc main_v23_1) = fun i => if (i 0 : Nat) / 8 / 96 = 3
    then scaleA (sumsOf (m ((c : Thread nD τ).loc main_arg3))) (m ((c : Thread nD τ).loc main_arg5)) (rowsOf (m ((c : Thread nD τ).loc main_arg6))) (rowsOf (m ((c : Thread nD τ).loc main_arg7))) (rowsOf (m ((c : Thread nD τ).loc main_arg8))) i
    else W6 m ρ c (Proc.devRef .tc main_v17_1) i := by
  refine (W8_arr m ρ c 7).trans ((scale3 (V7 m ρ) c).trans ?_)
  rw [entry_v19, entry3_arg5, entry_v20, entry_v21, entry_v22, entry_v23_1]

theorem exit3_least : W8 m ρ c (Proc.devRef .tc main_v23_2) = fun i => if (i 0 : Nat) / 8 / 96 = 3
    then leastA (sumsOf (m ((c : Thread nD τ).loc main_arg3))) (m ((c : Thread nD τ).loc main_arg5)) (rowsOf (m ((c : Thread nD τ).loc main_arg6))) (rowsOf (m ((c : Thread nD τ).loc main_arg7))) (rowsOf (m ((c : Thread nD τ).loc main_arg8))) i
    else W6 m ρ c (Proc.devRef .tc main_v17_2) i := by
  refine (W8_arr m ρ c 8).trans ((least3 (V7 m ρ) c).trans ?_)
  rw [entry_v19, entry3_arg5, entry_v20, entry_v21, entry_v22, entry_v23_2]

theorem exit3_state : W8 m ρ c (Proc.devRef .tc main_v23_3) = fun i => if (i 0 : Nat) / 8 / 96 = 3
    then stateA (sumsOf (m ((c : Thread nD τ).loc main_arg3))) (m ((c : Thread nD τ).loc main_arg5)) (rowsOf (m ((c : Thread nD τ).loc main_arg6))) (rowsOf (m ((c : Thread nD τ).loc main_arg7))) (rowsOf (m ((c : Thread nD τ).loc main_arg8))) i
    else W6 m ρ c (Proc.devRef .tc main_v17_3) i := by
  refine (W8_arr m ρ c 9).trans ((state3 (V7 m ρ) c).trans ?_)
  rw [entry_v19, entry3_arg5, entry_v20, entry_v21, entry_v22, entry_v23_3]

end Cert.KernelIdeal.Arrays
-- ==== Proof.Final.lean ====
/- The results of the kernel, row by row: what the reference computes for the row. -/
module

public import proofs.«01_k».proof.Proof.Chain

@[expose] public section

noncomputable section

namespace Cert.KernelIdeal.Arrays

open Idealize.ShloMosaic Idealize.ShloMosaic.TcCoe Idealize.ShloMosaic.Tactic Idealize.ShloMosaic.StableHlo
open Idealize.SL Idealize.SL.Sem Cert.KernelIdeal.Gen
open Cert.ReferenceIdeal.Steps (gN cN rN)

variable (m : (ℓ : Loc nD τ sig) → Buf (Elt Ideal) ℓ) (ρ : Dev nD → PrngReg) (c : Dev nD)

/-- A list of one number per row, read off the array the calls leave. -/
theorem list_at (X : Vec Ideal S3072x128 .f32) (n : Fin 393216) :
    shapeCast S393216 X shapeCasts_S3072x128_S393216 (ix1 n) = X (cellOf n) := by
  unfold cellOf
  pointwise

/-- The codes, row by row. -/
theorem table_at (X : Vec Ideal S192x393216 .i8) (n : Fin 393216) (d : Fin 192) :
    transpose S393216x192 [1, 0] X transposes_S192x393216_S393216x192_1_0 (ix2 n d) = X (ix2 d n) := by
  pointwise

theorem last_v24 : W9 m ρ c (Proc.devRef .tc main_v24)
    = transpose S393216x192 [1, 0] (W8 m ρ c (Proc.devRef .tc main_v23_0)) transposes_S192x393216_S393216x192_1_0 := by
  show StableHlo.after hostOps4 _ _ = _
  after_results
  all_goals rfl

theorem last_v25 : W9 m ρ c (Proc.devRef .tc main_v25)
    = shapeCast S393216 (W8 m ρ c (Proc.devRef .tc main_v23_1)) shapeCasts_S3072x128_S393216 := by
  show StableHlo.after hostOps4 _ _ = _
  after_results
  all_goals rfl

theorem last_v26 : W9 m ρ c (Proc.devRef .tc main_v26)
    = shapeCast S393216 (W8 m ρ c (Proc.devRef .tc main_v23_2)) shapeCasts_S3072x128_S393216 := by
  show StableHlo.after hostOps4 _ _ = _
  after_results
  all_goals rfl

theorem last_v27 : W9 m ρ c (Proc.devRef .tc main_v27)
    = shapeCast S393216 (W8 m ρ c (Proc.devRef .tc main_v23_3)) shapeCasts_S3072x128_S393216 := by
  show StableHlo.after hostOps4 _ _ = _
  after_results
  all_goals rfl

theorem result_scale (n : Fin 393216) : W9 m ρ c (Proc.devRef .tc main_v25) (ix1 n)
    = Row.scale (gN (m ((c : Thread nD τ).loc main_arg0)) (m ((c : Thread nD τ).loc main_arg1)) (m ((c : Thread nD τ).loc main_arg2)) (m ((c : Thread nD τ).loc main_arg3)) n) (cN (m ((c : Thread nD τ).loc main_arg5)) n) ((m ((c : Thread nD τ).loc main_arg6)) (ix1 n)) ((m ((c : Thread nD τ).loc main_arg7)) (ix1 n)) ((m ((c : Thread nD τ).loc main_arg8)) (ix1 n)) := by
  rw [last_v25]
  refine (list_at _ n).trans ?_
  rw [exit3_scale, exit2_scale, exit1_scale, exit0_scale]
  refine Eq.trans ?_ (pick (m ((c : Thread nD τ).loc main_arg0)) (m ((c : Thread nD τ).loc main_arg1)) (m ((c : Thread nD τ).loc main_arg2)) (m ((c : Thread nD τ).loc main_arg3))
    (fun g => Row.scale g (cN (m ((c : Thread nD τ).loc main_arg5)) n) ((m ((c : Thread nD τ).loc main_arg6)) (ix1 n)) ((m ((c : Thread nD τ).loc main_arg7)) (ix1 n)) ((m ((c : Thread nD τ).loc main_arg8)) (ix1 n)))
    n ((cellOf n 0 : Nat) / 8 / 96) (by show n.val / 128 / 8 / 96 = n.val / 98304; omega) (V1 m ρ c main_v5_1 (cellOf n)))
  simp only [← scaleA_at]

theorem result_least (n : Fin 393216) : W9 m ρ c (Proc.devRef .tc main_v26) (ix1 n)
    = Row.least (gN (m ((c : Thread nD τ).loc main_arg0)) (m ((c : Thread nD τ).loc main_arg1)) (m ((c : Thread nD τ).loc main_arg2)) (m ((c : Thread nD τ).loc main_arg3)) n) (cN (m ((c : Thread nD τ).loc main_arg5)) n) ((m ((c : Thread nD τ).loc main_arg6)) (ix1 n)) ((m ((c : Thread nD τ).loc main_arg7)) (ix1 n)) ((m ((c : Thread nD τ).loc main_arg8)) (ix1 n)) := by
  rw [last_v26]
  refine (list_at _ n).trans ?_
  rw [exit3_least, exit2_least, exit1_least, exit0_least]
  refine Eq.trans ?_ (pick (m ((c : Thread nD τ).loc main_arg0)) (m ((c : Thread nD τ).loc main_arg1)) (m ((c : Thread nD τ).loc main_arg2)) (m ((c : Thread nD τ).loc main_arg3))
    (fun g => Row.least g (cN (m ((c : Thread nD τ).loc main_arg5)) n) ((m ((c : Thread nD τ).loc main_arg6)) (ix1 n)) ((m ((c : Thread nD τ).loc main_arg7)) (ix1 n)) ((m ((c : Thread nD τ).loc main_arg8)) (ix1 n)))
    n ((cellOf n 0 : Nat) / 8 / 96) (by show n.val / 128 / 8 / 96 = n.val / 98304; omega) (V1 m ρ c main_v5_2 (cellOf n)))
  simp only [← leastA_at]

theorem result_state (n : Fin 393216) : W9 m ρ c (Proc.devRef .tc main_v27) (ix1 n)
    = Row.state (gN (m ((c : Thread nD τ).loc main_arg0)) (m ((c : Thread nD τ).loc main_arg1)) (m ((c : Thread nD τ).loc main_arg2)) (m ((c : Thread nD τ).loc main_arg3)) n) (cN (m ((c : Thread nD τ).loc main_arg5)) n) ((m ((c : Thread nD τ).loc main_arg6)) (ix1 n)) ((m ((c : Thread nD τ).loc main_arg7)) (ix1 n)) ((m ((c : Thread nD τ).loc main_arg8)) (ix1 n)) := by
  rw [last_v27]
  refine (list_at _ n).trans ?_
  rw [exit3_state, exit2_state, exit1_state, exit0_state]
  refine Eq.trans ?_ (pick (m ((c : Thread nD τ).loc main_arg0)) (m ((c : Thread nD τ).loc main_arg1)) (m ((c : Thread nD τ).loc main_arg2)) (m ((c : Thread nD τ).loc main_arg3))
    (fun g => Row.state g (cN (m ((c : Thread nD τ).loc main_arg5)) n) ((m ((c : Thread nD τ).loc main_arg6)) (ix1 n)) ((m ((c : Thread nD τ).loc main_arg7)) (ix1 n)) ((m ((c : Thread nD τ).loc main_arg8)) (ix1 n)))
    n ((cellOf n 0 : Nat) / 8 / 96) (by show n.val / 128 / 8 / 96 = n.val / 98304; omega) (V1 m ρ c main_v5_3 (cellOf n)))
  simp only [← stateA_at]

theorem result_code (n : Fin 393216) (d : Fin 192) : W9 m ρ c (Proc.devRef .tc main_v24) (ix2 n d)
    = Row.code (gN (m ((c : Thread nD τ).loc main_arg0)) (m ((c : Thread nD τ).loc main_arg1)) (m ((c : Thread nD τ).loc main_arg2)) (m ((c : Thread nD τ).loc main_arg3)) n) (cN (m ((c : Thread nD τ).loc main_arg5)) n) (rN (m ((c : Thread nD τ).loc main_arg4)) n) ((m ((c : Thread nD τ).loc main_arg6)) (ix1 n)) ((m ((c : Thread nD τ).loc main_arg7)) (ix1 n)) ((m ((c : Thread nD τ).loc main_arg8)) (ix1 n)) d := by
  rw [last_v24]
  refine (table_at _ n d).trans ?_
  rw [exit3_code, exit2_code, exit1_code, exit0_code]
  refine Eq.trans ?_ (pick (m ((c : Thread nD τ).loc main_arg0)) (m ((c : Thread nD τ).loc main_arg1)) (m ((c : Thread nD τ).loc main_arg2)) (m ((c : Thread nD τ).loc main_arg3))
    (fun g => Row.code g (cN (m ((c : Thread nD τ).loc main_arg5)) n) (rN (m ((c : Thread nD τ).loc main_arg4)) n) ((m ((c : Thread nD τ).loc main_arg6)) (ix1 n)) ((m ((c : Thread nD τ).loc main_arg7)) (ix1 n)) ((m ((c : Thread nD τ).loc main_arg8)) (ix1 n)) d)
    n (n.val / 1024 / 96) (by omega) (V1 m ρ c main_v5_0 (ix2 d n)))
  simp only [← codeA_at]
  rfl

end Cert.KernelIdeal.Arrays
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.RunRef
public import proofs.«01_k».proof.Proof.Final

@[expose] public section

noncomputable section

namespace Cert.Proof

open Idealize.ShloMosaic Idealize.ShloMosaic.TcCoe Idealize.SL.Sem

section Rows

open Cert.KernelIdeal Cert.KernelIdeal.Gen

variable (m : (ℓ : Loc nD τ sig) → Buf (Elt Ideal) ℓ) (ρ : Dev nD → PrngReg) (c : Dev nD)

theorem scale_eq : W9 m ρ c (Proc.devRef .tc main_v25) = Cert.ReferenceIdeal.Steps.scale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  funext i
  obtain ⟨n, rfl⟩ : ∃ n : Fin 393216, i = ix1 n := ⟨i 0, (ix1_eta i).symm⟩
  exact (Arrays.result_scale m ρ c n).trans (Cert.ReferenceIdeal.Steps.scale_at ..).symm

theorem least_eq : W9 m ρ c (Proc.devRef .tc main_v26) = Cert.ReferenceIdeal.Steps.least (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  funext i
  obtain ⟨n, rfl⟩ : ∃ n : Fin 393216, i = ix1 n := ⟨i 0, (ix1_eta i).symm⟩
  exact (Arrays.result_least m ρ c n).trans (Cert.ReferenceIdeal.Steps.least_at ..).symm

theorem state_eq : W9 m ρ c (Proc.devRef .tc main_v27) = Cert.ReferenceIdeal.Steps.state (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  funext i
  obtain ⟨n, rfl⟩ : ∃ n : Fin 393216, i = ix1 n := ⟨i 0, (ix1_eta i).symm⟩
  exact (Arrays.result_state m ρ c n).trans (Cert.ReferenceIdeal.Steps.state_at ..).symm

theorem code_eq : W9 m ρ c (Proc.devRef .tc main_v24) = Cert.ReferenceIdeal.Steps.code (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨n, d, rfl⟩ : ∃ (n : Fin 393216) (d : Fin 192), i = ix2 n d := ⟨i 0, i 1, (ix2_eta i).symm⟩
  exact (Arrays.result_code m ρ c n d).trans (Cert.ReferenceIdeal.Steps.code_at ..).symm

end Rows

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨fun c => Cert.KernelIdeal.Gen.W9 m ρ c (Proc.devRef .tc Cert.KernelIdeal.main_v24),
    fun c => Cert.KernelIdeal.Gen.W9 m ρ c (Proc.devRef .tc Cert.KernelIdeal.main_v25),
    fun c => Cert.KernelIdeal.Gen.W9 m ρ c (Proc.devRef .tc Cert.KernelIdeal.main_v26),
    fun c => Cert.KernelIdeal.Gen.W9 m ρ c (Proc.devRef .tc Cert.KernelIdeal.main_v27), ?_, ?_⟩
  · exact (θ_run Cert.KernelIdeal.defs _ _).mono (fun _ h => h.1) (Cert.KernelIdeal.Results.run_results (F := Ideal) m ρ)
  · refine (θ_run Cert.ReferenceIdeal.defs _ _).mono (fun _ h c => ?_) (Cert.ReferenceIdeal.Steps.run_steps m' ρ')
    obtain ⟨r0, r1, r2, r3, hargs⟩ := h c
    obtain ⟨h0, h1, h2, h3, h4, h5, h6, h7, h8⟩ := hagree c
    rw [h0, h1, h2, h3, h4, h5, h6, h7, h8] at r0
    rw [h0, h1, h2, h3, h5, h6, h7, h8] at r1 r2 r3
    exact ⟨r0.trans (code_eq m ρ c).symm, r1.trans (scale_eq m ρ c).symm, r2.trans (least_eq m ρ c).symm,
      r3.trans (state_eq m ρ c).symm, hargs⟩

theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
